-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v261)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v261) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S8x1x64x1407 : Shape := ⟨4, ![8, 1, 64, 1407]⟩
abbrev S128x1x4x4 : Shape := ⟨4, ![128, 1, 4, 4]⟩
abbrev S128 : Shape := ⟨1, ![128]⟩
abbrev S64x128x4x4 : Shape := ⟨4, ![64, 128, 4, 4]⟩
abbrev S64 : Shape := ⟨1, ![64]⟩
abbrev S512x64 : Shape := ⟨2, ![512, 64]⟩
abbrev S128x64x4x4 : Shape := ⟨4, ![128, 64, 4, 4]⟩
abbrev S1x64x3x3 : Shape := ⟨4, ![1, 64, 3, 3]⟩
abbrev S1 : Shape := ⟨1, ![1]⟩
abbrev S_ : Shape := ⟨0, ![]⟩

class Facts : Prop where
  bcast_S_S8x1x64x1407 : S_.BroadcastsInDim S8x1x64x1407 (![] : Fin 0 → Fin S8x1x64x1407.rank)

variable [Facts]

def fn {F : FTy → Type} [FloatOps F] (main_arg0 : FVec F S8x1x64x1407 .f32) (main_arg1 : FVec F S128x1x4x4 .f32) (main_arg2 : FVec F S128 .f32) (main_arg3 : FVec F S64x128x4x4 .f32) (main_arg4 : FVec F S64 .f32) (main_arg5 : FVec F S512x64 .f32) (main_arg6 : FVec F S64x128x4x4 .f32) (main_arg7 : FVec F S128 .f32) (main_arg8 : FVec F S128x64x4x4 .f32) (main_arg9 : FVec F S64 .f32) (main_arg10 : FVec F S1x64x3x3 .f32) (main_arg11 : FVec F S1 .f32) : IVec S8x1x64x1407 1 :=
  let main_v0 : FVec F S8x1x64x1407 .f32 := Host.absf main_arg0
  let main_cst : FVec F S_ .f32 := constant S_ .f32 0x7F800000#32
  let main_v1 : FVec F S8x1x64x1407 .f32 := broadcastInDim S8x1x64x1407 ![] bcast_S_S8x1x64x1407 main_cst
  let main_v2 : IVec S8x1x64x1407 1 := cmpf .olt main_v0 main_v1
  main_v2
-- ==== Kernel.lean ====
abbrev S8x1x64x1407 : Shape := ⟨4, ![8, 1, 64, 1407]⟩
abbrev S128x1x4x4 : Shape := ⟨4, ![128, 1, 4, 4]⟩
abbrev S128 : Shape := ⟨1, ![128]⟩
abbrev S64x128x4x4 : Shape := ⟨4, ![64, 128, 4, 4]⟩
abbrev S64 : Shape := ⟨1, ![64]⟩
abbrev S512x64 : Shape := ⟨2, ![512, 64]⟩
abbrev S128x64x4x4 : Shape := ⟨4, ![128, 64, 4, 4]⟩
abbrev S1x64x3x3 : Shape := ⟨4, ![1, 64, 3, 3]⟩
abbrev S1 : Shape := ⟨1, ![1]⟩
abbrev S1409 : Shape := ⟨1, ![1409]⟩
abbrev S8x64x1407 : Shape := ⟨3, ![8, 64, 1407]⟩
abbrev S_ : Shape := ⟨0, ![]⟩
abbrev S8x66x1409 : Shape := ⟨3, ![8, 66, 1409]⟩
abbrev S8x32x703 : Shape := ⟨3, ![8, 32, 703]⟩
abbrev S8x32x703x1 : Shape := ⟨4, ![8, 32, 703, 1]⟩
abbrev S8x32x703x16 : Shape := ⟨4, ![8, 32, 703, 16]⟩
abbrev S179968x16 : Shape := ⟨2, ![179968, 16]⟩
abbrev S128x16 : Shape := ⟨2, ![128, 16]⟩
abbrev S16x128 : Shape := ⟨2, ![16, 128]⟩
abbrev S1x128 : Shape := ⟨2, ![1, 128]⟩
abbrev S179968x128 : Shape := ⟨2, ![179968, 128]⟩
abbrev S5624x16 : Shape := ⟨2, ![5624, 16]⟩
abbrev S5624x128 : Shape := ⟨2, ![5624, 128]⟩
abbrev S8x32x703x128 : Shape := ⟨4, ![8, 32, 703, 128]⟩
abbrev S8x34x705x128 : Shape := ⟨4, ![8, 34, 705, 128]⟩
abbrev S8x17x353x128 : Shape := ⟨4, ![8, 17, 353, 128]⟩
abbrev S8x17x352x128 : Shape := ⟨4, ![8, 17, 352, 128]⟩
abbrev S8x1x17x353x128 : Shape := ⟨5, ![8, 1, 17, 353, 128]⟩
abbrev S8x4x17x353x128 : Shape := ⟨5, ![8, 4, 17, 353, 128]⟩
abbrev S8x4x9x353x128 : Shape := ⟨5, ![8, 4, 9, 353, 128]⟩
abbrev S8x1x4x9x353x128 : Shape := ⟨6, ![8, 1, 4, 9, 353, 128]⟩
abbrev S8x2x4x9x353x128 : Shape := ⟨6, ![8, 2, 4, 9, 353, 128]⟩
abbrev S64x128x1x1 : Shape := ⟨4, ![64, 128, 1, 1]⟩
abbrev S64x128 : Shape := ⟨2, ![64, 128]⟩
abbrev S128x64 : Shape := ⟨2, ![128, 64]⟩
abbrev S1x128x64 : Shape := ⟨3, ![1, 128, 64]⟩
abbrev S16x128x64 : Shape := ⟨3, ![16, 128, 64]⟩
abbrev S1x64 : Shape := ⟨2, ![1, 64]⟩
abbrev S8x2x8x351x64 : Shape := ⟨5, ![8, 2, 8, 351, 64]⟩
abbrev S1x1x4x9x353x128 : Shape := ⟨6, ![1, 1, 4, 9, 353, 128]⟩
abbrev S1x1x8x351x64 : Shape := ⟨5, ![1, 1, 8, 351, 64]⟩
abbrev S2808x64 : Shape := ⟨2, ![2808, 64]⟩
abbrev S1x1x1x8x351x128 : Shape := ⟨6, ![1, 1, 1, 8, 351, 128]⟩
abbrev S8x351x128 : Shape := ⟨3, ![8, 351, 128]⟩
abbrev S2808x128 : Shape := ⟨2, ![2808, 128]⟩
abbrev S8x351x64 : Shape := ⟨3, ![8, 351, 64]⟩
abbrev S44928x64 : Shape := ⟨2, ![44928, 64]⟩
abbrev S64x512 : Shape := ⟨2, ![64, 512]⟩
abbrev S1872x64 : Shape := ⟨2, ![1872, 64]⟩
abbrev S512 : Shape := ⟨1, ![512]⟩
abbrev S1x512 : Shape := ⟨2, ![1, 512]⟩
abbrev S1872 : Shape := ⟨1, ![1872]⟩
abbrev S1872x1 : Shape := ⟨2, ![1872, 1]⟩
abbrev S1872x512 : Shape := ⟨2, ![1872, 512]⟩
abbrev S8x16x351x64 : Shape := ⟨4, ![8, 16, 351, 64]⟩
abbrev S8x18x353x64 : Shape := ⟨4, ![8, 18, 353, 64]⟩
abbrev S1x64x128 : Shape := ⟨3, ![1, 64, 128]⟩
abbrev S16x64x128 : Shape := ⟨3, ![16, 64, 128]⟩
abbrev S8x16x2x351x2x128 : Shape := ⟨6, ![8, 16, 2, 351, 2, 128]⟩
abbrev S1x18x353x64 : Shape := ⟨4, ![1, 18, 353, 64]⟩
abbrev S1x16x2x351x2x128 : Shape := ⟨6, ![1, 16, 2, 351, 2, 128]⟩
abbrev S5616x128 : Shape := ⟨2, ![5616, 128]⟩
abbrev S1x16x351x64 : Shape := ⟨4, ![1, 16, 351, 64]⟩
abbrev S16x351x64 : Shape := ⟨3, ![16, 351, 64]⟩
abbrev S5616x64 : Shape := ⟨2, ![5616, 64]⟩
abbrev S16x351x128 : Shape := ⟨3, ![16, 351, 128]⟩
abbrev S1x16x1x351x1x128 : Shape := ⟨6, ![1, 16, 1, 351, 1, 128]⟩
abbrev S8x32x702x128 : Shape := ⟨4, ![8, 32, 702, 128]⟩
abbrev S8x34x704x128 : Shape := ⟨4, ![8, 34, 704, 128]⟩
abbrev S8x10x704x128 : Shape := ⟨4, ![8, 10, 704, 128]⟩
abbrev S8x1x10x704x128 : Shape := ⟨5, ![8, 1, 10, 704, 128]⟩
abbrev S8x4x10x704x128 : Shape := ⟨5, ![8, 4, 10, 704, 128]⟩
abbrev S128x64x1x1 : Shape := ⟨4, ![128, 64, 1, 1]⟩
abbrev S8x4x8x2x702x2x64 : Shape := ⟨7, ![8, 4, 8, 2, 702, 2, 64]⟩
abbrev S1x1x10x704x128 : Shape := ⟨5, ![1, 1, 10, 704, 128]⟩
abbrev S1x1x8x2x702x2x64 : Shape := ⟨7, ![1, 1, 8, 2, 702, 2, 64]⟩
abbrev S1x1x8x702x128 : Shape := ⟨5, ![1, 1, 8, 702, 128]⟩
abbrev S8x702x128 : Shape := ⟨3, ![8, 702, 128]⟩
abbrev S8x702x64 : Shape := ⟨3, ![8, 702, 64]⟩
abbrev S1x1x8x1x702x1x64 : Shape := ⟨7, ![1, 1, 8, 1, 702, 1, 64]⟩
abbrev S8x64x1404x64 : Shape := ⟨4, ![8, 64, 1404, 64]⟩
abbrev S8x66x1406x64 : Shape := ⟨4, ![8, 66, 1406, 64]⟩
abbrev S8x18x1406x64 : Shape := ⟨4, ![8, 18, 1406, 64]⟩
abbrev S8x1x18x1406x64 : Shape := ⟨5, ![8, 1, 18, 1406, 64]⟩
abbrev S8x4x18x1406x64 : Shape := ⟨5, ![8, 4, 18, 1406, 64]⟩
abbrev S1409x1 : Shape := ⟨2, ![1409, 1]⟩
abbrev S1x1 : Shape := ⟨2, ![1, 1]⟩
abbrev S8x4x18x1409x64 : Shape := ⟨5, ![8, 4, 18, 1409, 64]⟩
abbrev S64x3x3 : Shape := ⟨3, ![64, 3, 3]⟩
abbrev S64x9 : Shape := ⟨2, ![64, 9]⟩
abbrev S9x64 : Shape := ⟨2, ![9, 64]⟩
abbrev S16x64 : Shape := ⟨2, ![16, 64]⟩
abbrev S8x4x16x1407 : Shape := ⟨4, ![8, 4, 16, 1407]⟩
abbrev S1x1x18x1409x64 : Shape := ⟨5, ![1, 1, 18, 1409, 64]⟩
abbrev S1x1x16x1407 : Shape := ⟨4, ![1, 1, 16, 1407]⟩
abbrev S16x1407x64 : Shape := ⟨3, ![16, 1407, 64]⟩
abbrev S1x1x16x1407x64 : Shape := ⟨5, ![1, 1, 16, 1407, 64]⟩
abbrev S1x1x64 : Shape := ⟨3, ![1, 1, 64]⟩
abbrev S16x1407 : Shape := ⟨2, ![16, 1407]⟩

abbrev nBuf : Space → Nat
  | .hbm => 313
  | .vmem => 36
  | .smem => 0
  | _ => 0

abbrev hbmTy0_0 (i : Nat) : BufTy := match i % 128 with
  | 0 => ⟨S8x1x64x1407, .f32⟩
  | 1 => ⟨S128x1x4x4, .f32⟩
  | 2 => ⟨S128, .f32⟩
  | 3 => ⟨S64x128x4x4, .f32⟩
  | 4 => ⟨S64, .f32⟩
  | 5 => ⟨S512x64, .f32⟩
  | 6 => ⟨S64x128x4x4, .f32⟩
  | 7 => ⟨S128, .f32⟩
  | 8 => ⟨S128x64x4x4, .f32⟩
  | 9 => ⟨S64, .f32⟩
  | 10 => ⟨S1x64x3x3, .f32⟩
  | 11 => ⟨S1, .f32⟩
  | 12 => ⟨S1409, .i32⟩
  | 13 => ⟨S8x64x1407, .f32⟩
  | 14 => ⟨S_, .i32⟩
  | 15 => ⟨S_, .f32⟩
  | 16 => ⟨S8x66x1409, .f32⟩
  | 17 => ⟨S8x32x703, .f32⟩
  | 18 => ⟨S8x32x703, .f32⟩
  | 19 => ⟨S8x32x703, .f32⟩
  | 20 => ⟨S8x32x703, .f32⟩
  | 21 => ⟨S8x32x703, .f32⟩
  | 22 => ⟨S8x32x703, .f32⟩
  | 23 => ⟨S8x32x703, .f32⟩
  | 24 => ⟨S8x32x703, .f32⟩
  | 25 => ⟨S8x32x703, .f32⟩
  | 26 => ⟨S8x32x703, .f32⟩
  | 27 => ⟨S8x32x703, .f32⟩
  | 28 => ⟨S8x32x703, .f32⟩
  | 29 => ⟨S8x32x703, .f32⟩
  | 30 => ⟨S8x32x703, .f32⟩
  | 31 => ⟨S8x32x703, .f32⟩
  | 32 => ⟨S8x32x703, .f32⟩
  | 33 => ⟨S8x32x703x1, .f32⟩
  | 34 => ⟨S8x32x703x1, .f32⟩
  | 35 => ⟨S8x32x703x1, .f32⟩
  | 36 => ⟨S8x32x703x1, .f32⟩
  | 37 => ⟨S8x32x703x1, .f32⟩
  | 38 => ⟨S8x32x703x1, .f32⟩
  | 39 => ⟨S8x32x703x1, .f32⟩
  | 40 => ⟨S8x32x703x1, .f32⟩
  | 41 => ⟨S8x32x703x1, .f32⟩
  | 42 => ⟨S8x32x703x1, .f32⟩
  | 43 => ⟨S8x32x703x1, .f32⟩
  | 44 => ⟨S8x32x703x1, .f32⟩
  | 45 => ⟨S8x32x703x1, .f32⟩
  | 46 => ⟨S8x32x703x1, .f32⟩
  | 47 => ⟨S8x32x703x1, .f32⟩
  | 48 => ⟨S8x32x703x1, .f32⟩
  | 49 => ⟨S8x32x703x16, .f32⟩
  | 50 => ⟨S179968x16, .f32⟩
  | 51 => ⟨S128x16, .f32⟩
  | 52 => ⟨S16x128, .f32⟩
  | 53 => ⟨S1x128, .f32⟩
  | 54 => ⟨S179968x128, .f32⟩
  | 55 => ⟨S8x32x703x128, .f32⟩
  | 56 => ⟨S_, .i32⟩
  | 57 => ⟨S_, .f32⟩
  | 58 => ⟨S8x34x705x128, .f32⟩
  | 59 => ⟨S8x17x353x128, .f32⟩
  | 60 => ⟨S8x17x352x128, .f32⟩
  | 61 => ⟨S_, .i32⟩
  | 62 => ⟨S_, .f32⟩
  | 63 => ⟨S8x17x353x128, .f32⟩
  | 64 => ⟨S8x17x353x128, .f32⟩
  | 65 => ⟨S8x17x352x128, .f32⟩
  | 66 => ⟨S_, .i32⟩
  | 67 => ⟨S_, .f32⟩
  | 68 => ⟨S8x17x353x128, .f32⟩
  | 69 => ⟨S8x1x17x353x128, .f32⟩
  | 70 => ⟨S8x1x17x353x128, .f32⟩
  | 71 => ⟨S8x1x17x353x128, .f32⟩
  | 72 => ⟨S8x1x17x353x128, .f32⟩
  | 73 => ⟨S8x4x17x353x128, .f32⟩
  | 74 => ⟨S8x4x9x353x128, .f32⟩
  | 75 => ⟨S8x4x9x353x128, .f32⟩
  | 76 => ⟨S8x1x4x9x353x128, .f32⟩
  | 77 => ⟨S8x1x4x9x353x128, .f32⟩
  | 78 => ⟨S8x2x4x9x353x128, .f32⟩
  | 79 => ⟨S64x128x1x1, .f32⟩
  | 80 => ⟨S64x128, .f32⟩
  | 81 => ⟨S128x64, .f32⟩
  | 82 => ⟨S64x128x1x1, .f32⟩
  | 83 => ⟨S64x128, .f32⟩
  | 84 => ⟨S128x64, .f32⟩
  | 85 => ⟨S64x128x1x1, .f32⟩
  | 86 => ⟨S64x128, .f32⟩
  | 87 => ⟨S128x64, .f32⟩
  | 88 => ⟨S64x128x1x1, .f32⟩
  | 89 => ⟨S64x128, .f32⟩
  | 90 => ⟨S128x64, .f32⟩
  | 91 => ⟨S64x128x1x1, .f32⟩
  | 92 => ⟨S64x128, .f32⟩
  | 93 => ⟨S128x64, .f32⟩
  | 94 => ⟨S64x128x1x1, .f32⟩
  | 95 => ⟨S64x128, .f32⟩
  | 96 => ⟨S128x64, .f32⟩
  | 97 => ⟨S64x128x1x1, .f32⟩
  | 98 => ⟨S64x128, .f32⟩
  | 99 => ⟨S128x64, .f32⟩
  | 100 => ⟨S64x128x1x1, .f32⟩
  | 101 => ⟨S64x128, .f32⟩
  | 102 => ⟨S128x64, .f32⟩
  | 103 => ⟨S64x128x1x1, .f32⟩
  | 104 => ⟨S64x128, .f32⟩
  | 105 => ⟨S128x64, .f32⟩
  | 106 => ⟨S64x128x1x1, .f32⟩
  | 107 => ⟨S64x128, .f32⟩
  | 108 => ⟨S128x64, .f32⟩
  | 109 => ⟨S64x128x1x1, .f32⟩
  | 110 => ⟨S64x128, .f32⟩
  | 111 => ⟨S128x64, .f32⟩
  | 112 => ⟨S64x128x1x1, .f32⟩
  | 113 => ⟨S64x128, .f32⟩
  | 114 => ⟨S128x64, .f32⟩
  | 115 => ⟨S64x128x1x1, .f32⟩
  | 116 => ⟨S64x128, .f32⟩
  | 117 => ⟨S128x64, .f32⟩
  | 118 => ⟨S64x128x1x1, .f32⟩
  | 119 => ⟨S64x128, .f32⟩
  | 120 => ⟨S128x64, .f32⟩
  | 121 => ⟨S64x128x1x1, .f32⟩
  | 122 => ⟨S64x128, .f32⟩
  | 123 => ⟨S128x64, .f32⟩
  | 124 => ⟨S64x128x1x1, .f32⟩
  | 125 => ⟨S64x128, .f32⟩
  | 126 => ⟨S128x64, .f32⟩
  | 127 => ⟨S1x128x64, .f32⟩
  | _ => ⟨S8x1x64x1407, .f32⟩

abbrev hbmTy0_1 (i : Nat) : BufTy := match i % 128 with
  | 0 => ⟨S1x128x64, .f32⟩
  | 1 => ⟨S1x128x64, .f32⟩
  | 2 => ⟨S1x128x64, .f32⟩
  | 3 => ⟨S1x128x64, .f32⟩
  | 4 => ⟨S1x128x64, .f32⟩
  | 5 => ⟨S1x128x64, .f32⟩
  | 6 => ⟨S1x128x64, .f32⟩
  | 7 => ⟨S1x128x64, .f32⟩
  | 8 => ⟨S1x128x64, .f32⟩
  | 9 => ⟨S1x128x64, .f32⟩
  | 10 => ⟨S1x128x64, .f32⟩
  | 11 => ⟨S1x128x64, .f32⟩
  | 12 => ⟨S1x128x64, .f32⟩
  | 13 => ⟨S1x128x64, .f32⟩
  | 14 => ⟨S1x128x64, .f32⟩
  | 15 => ⟨S16x128x64, .f32⟩
  | 16 => ⟨S1x64, .f32⟩
  | 17 => ⟨S8x2x8x351x64, .f32⟩
  | 18 => ⟨S44928x64, .f32⟩
  | 19 => ⟨S64x512, .f32⟩
  | 20 => ⟨S44928x64, .f32⟩
  | 21 => ⟨S8x16x351x64, .f32⟩
  | 22 => ⟨S_, .i32⟩
  | 23 => ⟨S_, .f32⟩
  | 24 => ⟨S8x18x353x64, .f32⟩
  | 25 => ⟨S64x128x1x1, .f32⟩
  | 26 => ⟨S64x128, .f32⟩
  | 27 => ⟨S64x128x1x1, .f32⟩
  | 28 => ⟨S64x128, .f32⟩
  | 29 => ⟨S64x128x1x1, .f32⟩
  | 30 => ⟨S64x128, .f32⟩
  | 31 => ⟨S64x128x1x1, .f32⟩
  | 32 => ⟨S64x128, .f32⟩
  | 33 => ⟨S64x128x1x1, .f32⟩
  | 34 => ⟨S64x128, .f32⟩
  | 35 => ⟨S64x128x1x1, .f32⟩
  | 36 => ⟨S64x128, .f32⟩
  | 37 => ⟨S64x128x1x1, .f32⟩
  | 38 => ⟨S64x128, .f32⟩
  | 39 => ⟨S64x128x1x1, .f32⟩
  | 40 => ⟨S64x128, .f32⟩
  | 41 => ⟨S64x128x1x1, .f32⟩
  | 42 => ⟨S64x128, .f32⟩
  | 43 => ⟨S64x128x1x1, .f32⟩
  | 44 => ⟨S64x128, .f32⟩
  | 45 => ⟨S64x128x1x1, .f32⟩
  | 46 => ⟨S64x128, .f32⟩
  | 47 => ⟨S64x128x1x1, .f32⟩
  | 48 => ⟨S64x128, .f32⟩
  | 49 => ⟨S64x128x1x1, .f32⟩
  | 50 => ⟨S64x128, .f32⟩
  | 51 => ⟨S64x128x1x1, .f32⟩
  | 52 => ⟨S64x128, .f32⟩
  | 53 => ⟨S64x128x1x1, .f32⟩
  | 54 => ⟨S64x128, .f32⟩
  | 55 => ⟨S64x128x1x1, .f32⟩
  | 56 => ⟨S64x128, .f32⟩
  | 57 => ⟨S1x64x128, .f32⟩
  | 58 => ⟨S1x64x128, .f32⟩
  | 59 => ⟨S1x64x128, .f32⟩
  | 60 => ⟨S1x64x128, .f32⟩
  | 61 => ⟨S1x64x128, .f32⟩
  | 62 => ⟨S1x64x128, .f32⟩
  | 63 => ⟨S1x64x128, .f32⟩
  | 64 => ⟨S1x64x128, .f32⟩
  | 65 => ⟨S1x64x128, .f32⟩
  | 66 => ⟨S1x64x128, .f32⟩
  | 67 => ⟨S1x64x128, .f32⟩
  | 68 => ⟨S1x64x128, .f32⟩
  | 69 => ⟨S1x64x128, .f32⟩
  | 70 => ⟨S1x64x128, .f32⟩
  | 71 => ⟨S1x64x128, .f32⟩
  | 72 => ⟨S1x64x128, .f32⟩
  | 73 => ⟨S16x64x128, .f32⟩
  | 74 => ⟨S1x128, .f32⟩
  | 75 => ⟨S8x16x2x351x2x128, .f32⟩
  | 76 => ⟨S8x32x702x128, .f32⟩
  | 77 => ⟨S_, .i32⟩
  | 78 => ⟨S_, .f32⟩
  | 79 => ⟨S8x34x704x128, .f32⟩
  | 80 => ⟨S8x10x704x128, .f32⟩
  | 81 => ⟨S8x10x704x128, .f32⟩
  | 82 => ⟨S8x10x704x128, .f32⟩
  | 83 => ⟨S8x10x704x128, .f32⟩
  | 84 => ⟨S8x1x10x704x128, .f32⟩
  | 85 => ⟨S8x1x10x704x128, .f32⟩
  | 86 => ⟨S8x1x10x704x128, .f32⟩
  | 87 => ⟨S8x1x10x704x128, .f32⟩
  | 88 => ⟨S8x4x10x704x128, .f32⟩
  | 89 => ⟨S128x64x1x1, .f32⟩
  | 90 => ⟨S128x64, .f32⟩
  | 91 => ⟨S128x64x1x1, .f32⟩
  | 92 => ⟨S128x64, .f32⟩
  | 93 => ⟨S128x64x1x1, .f32⟩
  | 94 => ⟨S128x64, .f32⟩
  | 95 => ⟨S128x64x1x1, .f32⟩
  | 96 => ⟨S128x64, .f32⟩
  | 97 => ⟨S128x64x1x1, .f32⟩
  | 98 => ⟨S128x64, .f32⟩
  | 99 => ⟨S128x64x1x1, .f32⟩
  | 100 => ⟨S128x64, .f32⟩
  | 101 => ⟨S128x64x1x1, .f32⟩
  | 102 => ⟨S128x64, .f32⟩
  | 103 => ⟨S128x64x1x1, .f32⟩
  | 104 => ⟨S128x64, .f32⟩
  | 105 => ⟨S128x64x1x1, .f32⟩
  | 106 => ⟨S128x64, .f32⟩
  | 107 => ⟨S128x64x1x1, .f32⟩
  | 108 => ⟨S128x64, .f32⟩
  | 109 => ⟨S128x64x1x1, .f32⟩
  | 110 => ⟨S128x64, .f32⟩
  | 111 => ⟨S128x64x1x1, .f32⟩
  | 112 => ⟨S128x64, .f32⟩
  | 113 => ⟨S128x64x1x1, .f32⟩
  | 114 => ⟨S128x64, .f32⟩
  | 115 => ⟨S128x64x1x1, .f32⟩
  | 116 => ⟨S128x64, .f32⟩
  | 117 => ⟨S128x64x1x1, .f32⟩
  | 118 => ⟨S128x64, .f32⟩
  | 119 => ⟨S128x64x1x1, .f32⟩
  | 120 => ⟨S128x64, .f32⟩
  | 121 => ⟨S1x128x64, .f32⟩
  | 122 => ⟨S1x128x64, .f32⟩
  | 123 => ⟨S1x128x64, .f32⟩
  | 124 => ⟨S1x128x64, .f32⟩
  | 125 => ⟨S1x128x64, .f32⟩
  | 126 => ⟨S1x128x64, .f32⟩
  | 127 => ⟨S1x128x64, .f32⟩
  | _ => ⟨S8x1x64x1407, .f32⟩

abbrev hbmTy0_2 (i : Nat) : BufTy := match i % 128 with
  | 0 => ⟨S1x128x64, .f32⟩
  | 1 => ⟨S1x128x64, .f32⟩
  | 2 => ⟨S1x128x64, .f32⟩
  | 3 => ⟨S1x128x64, .f32⟩
  | 4 => ⟨S1x128x64, .f32⟩
  | 5 => ⟨S1x128x64, .f32⟩
  | 6 => ⟨S1x128x64, .f32⟩
  | 7 => ⟨S1x128x64, .f32⟩
  | 8 => ⟨S1x128x64, .f32⟩
  | 9 => ⟨S16x128x64, .f32⟩
  | 10 => ⟨S1x64, .f32⟩
  | 11 => ⟨S8x4x8x2x702x2x64, .f32⟩
  | 12 => ⟨S8x64x1404x64, .f32⟩
  | 13 => ⟨S_, .i32⟩
  | 14 => ⟨S_, .f32⟩
  | 15 => ⟨S8x66x1406x64, .f32⟩
  | 16 => ⟨S8x18x1406x64, .f32⟩
  | 17 => ⟨S8x18x1406x64, .f32⟩
  | 18 => ⟨S8x18x1406x64, .f32⟩
  | 19 => ⟨S8x18x1406x64, .f32⟩
  | 20 => ⟨S8x1x18x1406x64, .f32⟩
  | 21 => ⟨S8x1x18x1406x64, .f32⟩
  | 22 => ⟨S8x1x18x1406x64, .f32⟩
  | 23 => ⟨S8x1x18x1406x64, .f32⟩
  | 24 => ⟨S8x4x18x1406x64, .f32⟩
  | 25 => ⟨S_, .i32⟩
  | 26 => ⟨S1409, .i32⟩
  | 27 => ⟨S1409, .i1⟩
  | 28 => ⟨S_, .i32⟩
  | 29 => ⟨S1409, .i32⟩
  | 30 => ⟨S1409, .i32⟩
  | 31 => ⟨S1409, .i32⟩
  | 32 => ⟨S1409x1, .i32⟩
  | 33 => ⟨S1, .i32⟩
  | 34 => ⟨S_, .i32⟩
  | 35 => ⟨S1409x1, .i32⟩
  | 36 => ⟨S1409x1, .i1⟩
  | 37 => ⟨S1x1, .i32⟩
  | 38 => ⟨S1409x1, .i32⟩
  | 39 => ⟨S1409x1, .i1⟩
  | 40 => ⟨S1409x1, .i1⟩
  | 41 => ⟨S_, .i1⟩
  | 42 => ⟨S1409, .i1⟩
  | 43 => ⟨S8x4x18x1409x64, .f32⟩
  | 44 => ⟨S8x4x18x1409x64, .i1⟩
  | 45 => ⟨S_, .f32⟩
  | 46 => ⟨S8x4x18x1409x64, .f32⟩
  | 47 => ⟨S8x4x18x1409x64, .f32⟩
  | 48 => ⟨S64x3x3, .f32⟩
  | 49 => ⟨S64x9, .f32⟩
  | 50 => ⟨S9x64, .f32⟩
  | 51 => ⟨S_, .i32⟩
  | 52 => ⟨S_, .f32⟩
  | 53 => ⟨S16x64, .f32⟩
  | 54 => ⟨S1x1, .f32⟩
  | 55 => ⟨S8x4x16x1407, .f32⟩
  | 56 => ⟨S8x1x64x1407, .f32⟩
  | _ => ⟨S8x1x64x1407, .f32⟩

abbrev hbmTy (i : Nat) : BufTy := match i / 128 with
  | 0 => hbmTy0_0 i
  | 1 => hbmTy0_1 i
  | 2 => hbmTy0_2 i
  | _ => ⟨S8x1x64x1407, .f32⟩

abbrev bufTy : (tb : Table) → Fin (tcTables nBuf tb) → BufTy
  | .hbm, ⟨i, _⟩ => hbmTy i
  | .local _ .vmem, ⟨0, _⟩ => ⟨S5624x16, .f32⟩
  | .local _ .vmem, ⟨1, _⟩ => ⟨S5624x16, .f32⟩
  | .local _ .vmem, ⟨2, _⟩ => ⟨S16x128, .f32⟩
  | .local _ .vmem, ⟨3, _⟩ => ⟨S1x128, .f32⟩
  | .local _ .vmem, ⟨4, _⟩ => ⟨S5624x128, .f32⟩
  | .local _ .vmem, ⟨5, _⟩ => ⟨S5624x128, .f32⟩
  | .local _ .vmem, ⟨6, _⟩ => ⟨S1x1x4x9x353x128, .f32⟩
  | .local _ .vmem, ⟨7, _⟩ => ⟨S1x1x4x9x353x128, .f32⟩
  | .local _ .vmem, ⟨8, _⟩ => ⟨S16x128x64, .f32⟩
  | .local _ .vmem, ⟨9, _⟩ => ⟨S1x64, .f32⟩
  | .local _ .vmem, ⟨10, _⟩ => ⟨S1x1x8x351x64, .f32⟩
  | .local _ .vmem, ⟨11, _⟩ => ⟨S1x1x8x351x64, .f32⟩
  | .local _ .vmem, ⟨12, _⟩ => ⟨S1872x64, .f32⟩
  | .local _ .vmem, ⟨13, _⟩ => ⟨S1872x64, .f32⟩
  | .local _ .vmem, ⟨14, _⟩ => ⟨S64x512, .f32⟩
  | .local _ .vmem, ⟨15, _⟩ => ⟨S512x64, .f32⟩
  | .local _ .vmem, ⟨16, _⟩ => ⟨S1872x64, .f32⟩
  | .local _ .vmem, ⟨17, _⟩ => ⟨S1872x64, .f32⟩
  | .local _ .vmem, ⟨18, _⟩ => ⟨S1x18x353x64, .f32⟩
  | .local _ .vmem, ⟨19, _⟩ => ⟨S1x18x353x64, .f32⟩
  | .local _ .vmem, ⟨20, _⟩ => ⟨S16x64x128, .f32⟩
  | .local _ .vmem, ⟨21, _⟩ => ⟨S1x128, .f32⟩
  | .local _ .vmem, ⟨22, _⟩ => ⟨S1x16x2x351x2x128, .f32⟩
  | .local _ .vmem, ⟨23, _⟩ => ⟨S1x16x2x351x2x128, .f32⟩
  | .local _ .vmem, ⟨24, _⟩ => ⟨S1x1x10x704x128, .f32⟩
  | .local _ .vmem, ⟨25, _⟩ => ⟨S1x1x10x704x128, .f32⟩
  | .local _ .vmem, ⟨26, _⟩ => ⟨S16x128x64, .f32⟩
  | .local _ .vmem, ⟨27, _⟩ => ⟨S1x64, .f32⟩
  | .local _ .vmem, ⟨28, _⟩ => ⟨S1x1x8x2x702x2x64, .f32⟩
  | .local _ .vmem, ⟨29, _⟩ => ⟨S1x1x8x2x702x2x64, .f32⟩
  | .local _ .vmem, ⟨30, _⟩ => ⟨S1x1x18x1409x64, .f32⟩
  | .local _ .vmem, ⟨31, _⟩ => ⟨S1x1x18x1409x64, .f32⟩
  | .local _ .vmem, ⟨32, _⟩ => ⟨S16x64, .f32⟩
  | .local _ .vmem, ⟨33, _⟩ => ⟨S1x1, .f32⟩
  | .local _ .vmem, ⟨34, _⟩ => ⟨S1x1x16x1407, .f32⟩
  | .local _ .vmem, ⟨35, _⟩ => ⟨S1x1x16x1407, .f32⟩
  | _, _ => ⟨S8x1x64x1407, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_1 : Ref sig .tc := ⟨.hbm, 56, rfl⟩
abbrev main_call1_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_2 : Ref sig .tc := ⟨.hbm, 61, rfl⟩
abbrev main_call2_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_3 : Ref sig .tc := ⟨.hbm, 66, rfl⟩
abbrev main_call3_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_c_4 : Ref sig .tc := ⟨.hbm, 150, rfl⟩
abbrev main_call4_v0 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_c_5 : Ref sig .tc := ⟨.hbm, 205, rfl⟩
abbrev main_call5_v0 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_c_6 : Ref sig .tc := ⟨.hbm, 269, rfl⟩
abbrev main_call6_v0 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_call7_c : Ref sig .tc := ⟨.hbm, 281, rfl⟩
abbrev main_call7_v0 : Ref sig .tc := ⟨.hbm, 282, rfl⟩
abbrev main_call7_v1 : Ref sig .tc := ⟨.hbm, 283, rfl⟩
abbrev main_call7_c_0 : Ref sig .tc := ⟨.hbm, 284, rfl⟩
abbrev main_call7_v2 : Ref sig .tc := ⟨.hbm, 285, rfl⟩
abbrev main_call7_v3 : Ref sig .tc := ⟨.hbm, 286, rfl⟩
abbrev main_call7_v4 : Ref sig .tc := ⟨.hbm, 287, rfl⟩
abbrev main_call7_v5 : Ref sig .tc := ⟨.hbm, 288, rfl⟩
abbrev main_call7_c_1 : Ref sig .tc := ⟨.hbm, 289, rfl⟩
abbrev main_call7_c_2 : Ref sig .tc := ⟨.hbm, 290, rfl⟩
abbrev main_call7_v6 : Ref sig .tc := ⟨.hbm, 291, rfl⟩
abbrev main_call7_v7 : Ref sig .tc := ⟨.hbm, 292, rfl⟩
abbrev main_call7_v8 : Ref sig .tc := ⟨.hbm, 293, rfl⟩
abbrev main_call7_v9 : Ref sig .tc := ⟨.hbm, 294, rfl⟩
abbrev main_call7_v10 : Ref sig .tc := ⟨.hbm, 295, rfl⟩
abbrev main_call7_v11 : Ref sig .tc := ⟨.hbm, 296, rfl⟩
abbrev main_call7_c_3 : Ref sig .tc := ⟨.hbm, 297, rfl⟩
abbrev main_call7_v12 : Ref sig .tc := ⟨.hbm, 298, rfl⟩
abbrev main_call7_v13 : Ref sig .tc := ⟨.hbm, 299, rfl⟩
abbrev main_call7_v14 : Ref sig .tc := ⟨.hbm, 300, rfl⟩
abbrev main_call7_cst : Ref sig .tc := ⟨.hbm, 301, rfl⟩
abbrev main_call7_v15 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_c_7 : Ref sig .tc := ⟨.hbm, 307, rfl⟩
abbrev main_call8_v0 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5624x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5624x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def cc1_transform_0 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 2 → Memref sig .tc .vmem S1x1x4x9x353x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x8x351x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![24], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1872x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1872x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

abbrev stage3_0 : Fin 2 → Memref sig .tc .vmem S1x18x353x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x16x2x351x2x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 4], ![false, false]⟩

def cc4_transform_0 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 7 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, arg1.toNat, c0_i32.toNat, c0_i32_0.toNat, c0_i32_1.toNat, c0_i32_2.toNat, c0_i32_3.toNat]

abbrev stage4_0 : Fin 2 → Memref sig .tc .vmem S1x1x10x704x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S16x128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x1x8x2x702x2x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![8, 4], ![false, false]⟩

def cc5_transform_0 (i : grid5.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x1x18x1409x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S16x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1x1x16x1407 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== ReferenceIdeal.lean ====
abbrev S8x1x64x1407 : Shape := ⟨4, ![8, 1, 64, 1407]⟩
abbrev S128x1x4x4 : Shape := ⟨4, ![128, 1, 4, 4]⟩
abbrev S128 : Shape := ⟨1, ![128]⟩
abbrev S64x128x4x4 : Shape := ⟨4, ![64, 128, 4, 4]⟩
abbrev S64 : Shape := ⟨1, ![64]⟩
abbrev S512x64 : Shape := ⟨2, ![512, 64]⟩
abbrev S128x64x4x4 : Shape := ⟨4, ![128, 64, 4, 4]⟩
abbrev S1x64x3x3 : Shape := ⟨4, ![1, 64, 3, 3]⟩
abbrev S1 : Shape := ⟨1, ![1]⟩
abbrev S_ : Shape := ⟨0, ![]⟩
abbrev S8x1x66x1409 : Shape := ⟨4, ![8, 1, 66, 1409]⟩
abbrev S32 : Shape := ⟨1, ![32]⟩
abbrev S32x1 : Shape := ⟨2, ![32, 1]⟩
abbrev S4 : Shape := ⟨1, ![4]⟩
abbrev S1x4 : Shape := ⟨2, ![1, 4]⟩
abbrev S32x4 : Shape := ⟨2, ![32, 4]⟩
abbrev S703 : Shape := ⟨1, ![703]⟩
abbrev S703x1 : Shape := ⟨2, ![703, 1]⟩
abbrev S703x4 : Shape := ⟨2, ![703, 4]⟩
abbrev S32x4x1 : Shape := ⟨3, ![32, 4, 1]⟩
abbrev S8x1x32x4x1409 : Shape := ⟨5, ![8, 1, 32, 4, 1409]⟩
abbrev S703x4x1 : Shape := ⟨3, ![703, 4, 1]⟩
abbrev S8x1x32x4x703x4 : Shape := ⟨6, ![8, 1, 32, 4, 703, 4]⟩
abbrev S128x8x32x703 : Shape := ⟨4, ![128, 8, 32, 703]⟩
abbrev S8x128x32x703 : Shape := ⟨4, ![8, 128, 32, 703]⟩
abbrev S1x128x1x1 : Shape := ⟨4, ![1, 128, 1, 1]⟩
abbrev S8x128x34x705 : Shape := ⟨4, ![8, 128, 34, 705]⟩
abbrev S16 : Shape := ⟨1, ![16]⟩
abbrev S16x1 : Shape := ⟨2, ![16, 1]⟩
abbrev S16x4 : Shape := ⟨2, ![16, 4]⟩
abbrev S351 : Shape := ⟨1, ![351]⟩
abbrev S351x1 : Shape := ⟨2, ![351, 1]⟩
abbrev S351x4 : Shape := ⟨2, ![351, 4]⟩
abbrev S16x4x1 : Shape := ⟨3, ![16, 4, 1]⟩
abbrev S8x128x16x4x705 : Shape := ⟨5, ![8, 128, 16, 4, 705]⟩
abbrev S351x4x1 : Shape := ⟨3, ![351, 4, 1]⟩
abbrev S8x128x16x4x351x4 : Shape := ⟨6, ![8, 128, 16, 4, 351, 4]⟩
abbrev S64x8x16x351 : Shape := ⟨4, ![64, 8, 16, 351]⟩
abbrev S8x64x16x351 : Shape := ⟨4, ![8, 64, 16, 351]⟩
abbrev S1x64x1x1 : Shape := ⟨4, ![1, 64, 1, 1]⟩
abbrev S8x64x5616 : Shape := ⟨3, ![8, 64, 5616]⟩
abbrev S8x5616x64 : Shape := ⟨3, ![8, 5616, 64]⟩
abbrev S8x5616 : Shape := ⟨2, ![8, 5616]⟩
abbrev S8x5616x1 : Shape := ⟨3, ![8, 5616, 1]⟩
abbrev S512 : Shape := ⟨1, ![512]⟩
abbrev S1x1x512 : Shape := ⟨3, ![1, 1, 512]⟩
abbrev S8x5616x512 : Shape := ⟨3, ![8, 5616, 512]⟩
abbrev S64x512 : Shape := ⟨2, ![64, 512]⟩
abbrev S8x64x35x705 : Shape := ⟨4, ![8, 64, 35, 705]⟩
abbrev S702 : Shape := ⟨1, ![702]⟩
abbrev S702x1 : Shape := ⟨2, ![702, 1]⟩
abbrev S702x4 : Shape := ⟨2, ![702, 4]⟩
abbrev S8x64x32x4x705 : Shape := ⟨5, ![8, 64, 32, 4, 705]⟩
abbrev S702x4x1 : Shape := ⟨3, ![702, 4, 1]⟩
abbrev S8x64x32x4x702x4 : Shape := ⟨6, ![8, 64, 32, 4, 702, 4]⟩
abbrev S128x8x32x702 : Shape := ⟨4, ![128, 8, 32, 702]⟩
abbrev S8x128x32x702 : Shape := ⟨4, ![8, 128, 32, 702]⟩
abbrev S8x128x67x1407 : Shape := ⟨4, ![8, 128, 67, 1407]⟩
abbrev S64x1 : Shape := ⟨2, ![64, 1]⟩
abbrev S64x4 : Shape := ⟨2, ![64, 4]⟩
abbrev S1404 : Shape := ⟨1, ![1404]⟩
abbrev S1404x1 : Shape := ⟨2, ![1404, 1]⟩
abbrev S1404x4 : Shape := ⟨2, ![1404, 4]⟩
abbrev S64x4x1 : Shape := ⟨3, ![64, 4, 1]⟩
abbrev S8x128x64x4x1407 : Shape := ⟨5, ![8, 128, 64, 4, 1407]⟩
abbrev S1404x4x1 : Shape := ⟨3, ![1404, 4, 1]⟩
abbrev S8x128x64x4x1404x4 : Shape := ⟨6, ![8, 128, 64, 4, 1404, 4]⟩
abbrev S64x8x64x1404 : Shape := ⟨4, ![64, 8, 64, 1404]⟩
abbrev S8x64x64x1404 : Shape := ⟨4, ![8, 64, 64, 1404]⟩
abbrev S1407 : Shape := ⟨1, ![1407]⟩
abbrev S1407x1 : Shape := ⟨2, ![1407, 1]⟩
abbrev S8x64x64x1407 : Shape := ⟨4, ![8, 64, 64, 1407]⟩
abbrev S8x64x66x1409 : Shape := ⟨4, ![8, 64, 66, 1409]⟩
abbrev S3 : Shape := ⟨1, ![3]⟩
abbrev S1x3 : Shape := ⟨2, ![1, 3]⟩
abbrev S64x3 : Shape := ⟨2, ![64, 3]⟩
abbrev S1407x3 : Shape := ⟨2, ![1407, 3]⟩
abbrev S64x3x1 : Shape := ⟨3, ![64, 3, 1]⟩
abbrev S8x64x64x3x1409 : Shape := ⟨5, ![8, 64, 64, 3, 1409]⟩
abbrev S1407x3x1 : Shape := ⟨3, ![1407, 3, 1]⟩
abbrev S8x64x64x3x1407x3 : Shape := ⟨6, ![8, 64, 64, 3, 1407, 3]⟩
abbrev S1x8x64x1407 : Shape := ⟨4, ![1, 8, 64, 1407]⟩
abbrev S1x1x1x1 : Shape := ⟨4, ![1, 1, 1, 1]⟩

abbrev nBuf : Space → Nat
  | .hbm => 267
  | .vmem => 0
  | .smem => 0
  | _ => 0

abbrev hbmTy0_0 (i : Nat) : BufTy := match i % 128 with
  | 0 => ⟨S8x1x64x1407, .f32⟩
  | 1 => ⟨S128x1x4x4, .f32⟩
  | 2 => ⟨S128, .f32⟩
  | 3 => ⟨S64x128x4x4, .f32⟩
  | 4 => ⟨S64, .f32⟩
  | 5 => ⟨S512x64, .f32⟩
  | 6 => ⟨S64x128x4x4, .f32⟩
  | 7 => ⟨S128, .f32⟩
  | 8 => ⟨S128x64x4x4, .f32⟩
  | 9 => ⟨S64, .f32⟩
  | 10 => ⟨S1x64x3x3, .f32⟩
  | 11 => ⟨S1, .f32⟩
  | 12 => ⟨S_, .i32⟩
  | 13 => ⟨S_, .f32⟩
  | 14 => ⟨S8x1x66x1409, .f32⟩
  | 15 => ⟨S32, .i32⟩
  | 16 => ⟨S32x1, .i32⟩
  | 17 => ⟨S_, .i32⟩
  | 18 => ⟨S32x1, .i32⟩
  | 19 => ⟨S32x1, .i32⟩
  | 20 => ⟨S4, .i32⟩
  | 21 => ⟨S1x4, .i32⟩
  | 22 => ⟨S32x4, .i32⟩
  | 23 => ⟨S32x4, .i32⟩
  | 24 => ⟨S32x4, .i32⟩
  | 25 => ⟨S703, .i32⟩
  | 26 => ⟨S703x1, .i32⟩
  | 27 => ⟨S_, .i32⟩
  | 28 => ⟨S703x1, .i32⟩
  | 29 => ⟨S703x1, .i32⟩
  | 30 => ⟨S4, .i32⟩
  | 31 => ⟨S1x4, .i32⟩
  | 32 => ⟨S703x4, .i32⟩
  | 33 => ⟨S703x4, .i32⟩
  | 34 => ⟨S703x4, .i32⟩
  | 35 => ⟨S32x4x1, .i32⟩
  | 36 => ⟨S8x1x32x4x1409, .f32⟩
  | 37 => ⟨S703x4x1, .i32⟩
  | 38 => ⟨S8x1x32x4x703x4, .f32⟩
  | 39 => ⟨S128x8x32x703, .f32⟩
  | 40 => ⟨S8x128x32x703, .f32⟩
  | 41 => ⟨S1x128x1x1, .f32⟩
  | 42 => ⟨S8x128x32x703, .f32⟩
  | 43 => ⟨S8x128x32x703, .f32⟩
  | 44 => ⟨S_, .f32⟩
  | 45 => ⟨S8x128x32x703, .f32⟩
  | 46 => ⟨S8x128x32x703, .f32⟩
  | 47 => ⟨S_, .i32⟩
  | 48 => ⟨S_, .f32⟩
  | 49 => ⟨S8x128x34x705, .f32⟩
  | 50 => ⟨S16, .i32⟩
  | 51 => ⟨S16x1, .i32⟩
  | 52 => ⟨S_, .i32⟩
  | 53 => ⟨S16x1, .i32⟩
  | 54 => ⟨S16x1, .i32⟩
  | 55 => ⟨S4, .i32⟩
  | 56 => ⟨S1x4, .i32⟩
  | 57 => ⟨S16x4, .i32⟩
  | 58 => ⟨S16x4, .i32⟩
  | 59 => ⟨S16x4, .i32⟩
  | 60 => ⟨S351, .i32⟩
  | 61 => ⟨S351x1, .i32⟩
  | 62 => ⟨S_, .i32⟩
  | 63 => ⟨S351x1, .i32⟩
  | 64 => ⟨S351x1, .i32⟩
  | 65 => ⟨S4, .i32⟩
  | 66 => ⟨S1x4, .i32⟩
  | 67 => ⟨S351x4, .i32⟩
  | 68 => ⟨S351x4, .i32⟩
  | 69 => ⟨S351x4, .i32⟩
  | 70 => ⟨S16x4x1, .i32⟩
  | 71 => ⟨S8x128x16x4x705, .f32⟩
  | 72 => ⟨S351x4x1, .i32⟩
  | 73 => ⟨S8x128x16x4x351x4, .f32⟩
  | 74 => ⟨S64x8x16x351, .f32⟩
  | 75 => ⟨S8x64x16x351, .f32⟩
  | 76 => ⟨S1x64x1x1, .f32⟩
  | 77 => ⟨S8x64x16x351, .f32⟩
  | 78 => ⟨S8x64x16x351, .f32⟩
  | 79 => ⟨S_, .f32⟩
  | 80 => ⟨S8x64x16x351, .f32⟩
  | 81 => ⟨S8x64x16x351, .f32⟩
  | 82 => ⟨S8x64x5616, .f32⟩
  | 83 => ⟨S8x5616x64, .f32⟩
  | 84 => ⟨S8x5616x64, .f32⟩
  | 85 => ⟨S_, .f32⟩
  | 86 => ⟨S8x5616, .f32⟩
  | 87 => ⟨S8x5616x1, .f32⟩
  | 88 => ⟨S512x64, .f32⟩
  | 89 => ⟨S_, .f32⟩
  | 90 => ⟨S512, .f32⟩
  | 91 => ⟨S1x1x512, .f32⟩
  | 92 => ⟨S8x5616x512, .f32⟩
  | 93 => ⟨S8x5616x512, .f32⟩
  | 94 => ⟨S8x5616x512, .f32⟩
  | 95 => ⟨S64x512, .f32⟩
  | 96 => ⟨S8x5616x512, .f32⟩
  | 97 => ⟨S_, .f32⟩
  | 98 => ⟨S8x5616x512, .f32⟩
  | 99 => ⟨S8x5616x512, .f32⟩
  | 100 => ⟨S8x5616x512, .f32⟩
  | 101 => ⟨S8x5616x512, .i32⟩
  | 102 => ⟨S_, .f32⟩
  | 103 => ⟨S_, .i32⟩
  | 104 => ⟨S8x5616, .f32⟩
  | 105 => ⟨S8x5616, .i32⟩
  | 106 => ⟨S8x5616x1, .i32⟩
  | 107 => ⟨S8x5616x64, .f32⟩
  | 108 => ⟨S8x64x5616, .f32⟩
  | 109 => ⟨S8x64x16x351, .f32⟩
  | 110 => ⟨S64x128x4x4, .f32⟩
  | 111 => ⟨S128x64x4x4, .f32⟩
  | 112 => ⟨S_, .f32⟩
  | 113 => ⟨S8x64x35x705, .f32⟩
  | 114 => ⟨S32, .i32⟩
  | 115 => ⟨S32x1, .i32⟩
  | 116 => ⟨S_, .i32⟩
  | 117 => ⟨S32x1, .i32⟩
  | 118 => ⟨S32x1, .i32⟩
  | 119 => ⟨S4, .i32⟩
  | 120 => ⟨S1x4, .i32⟩
  | 121 => ⟨S32x4, .i32⟩
  | 122 => ⟨S32x4, .i32⟩
  | 123 => ⟨S32x4, .i32⟩
  | 124 => ⟨S702, .i32⟩
  | 125 => ⟨S702x1, .i32⟩
  | 126 => ⟨S_, .i32⟩
  | 127 => ⟨S702x1, .i32⟩
  | _ => ⟨S8x1x64x1407, .f32⟩

abbrev hbmTy0_1 (i : Nat) : BufTy := match i % 128 with
  | 0 => ⟨S702x1, .i32⟩
  | 1 => ⟨S4, .i32⟩
  | 2 => ⟨S1x4, .i32⟩
  | 3 => ⟨S702x4, .i32⟩
  | 4 => ⟨S702x4, .i32⟩
  | 5 => ⟨S702x4, .i32⟩
  | 6 => ⟨S32x4x1, .i32⟩
  | 7 => ⟨S8x64x32x4x705, .f32⟩
  | 8 => ⟨S702x4x1, .i32⟩
  | 9 => ⟨S8x64x32x4x702x4, .f32⟩
  | 10 => ⟨S128x8x32x702, .f32⟩
  | 11 => ⟨S8x128x32x702, .f32⟩
  | 12 => ⟨S1x128x1x1, .f32⟩
  | 13 => ⟨S8x128x32x702, .f32⟩
  | 14 => ⟨S8x128x32x702, .f32⟩
  | 15 => ⟨S_, .f32⟩
  | 16 => ⟨S8x128x32x702, .f32⟩
  | 17 => ⟨S8x128x32x702, .f32⟩
  | 18 => ⟨S128x64x4x4, .f32⟩
  | 19 => ⟨S64x128x4x4, .f32⟩
  | 20 => ⟨S_, .f32⟩
  | 21 => ⟨S8x128x67x1407, .f32⟩
  | 22 => ⟨S64, .i32⟩
  | 23 => ⟨S64x1, .i32⟩
  | 24 => ⟨S_, .i32⟩
  | 25 => ⟨S64x1, .i32⟩
  | 26 => ⟨S64x1, .i32⟩
  | 27 => ⟨S4, .i32⟩
  | 28 => ⟨S1x4, .i32⟩
  | 29 => ⟨S64x4, .i32⟩
  | 30 => ⟨S64x4, .i32⟩
  | 31 => ⟨S64x4, .i32⟩
  | 32 => ⟨S1404, .i32⟩
  | 33 => ⟨S1404x1, .i32⟩
  | 34 => ⟨S_, .i32⟩
  | 35 => ⟨S1404x1, .i32⟩
  | 36 => ⟨S1404x1, .i32⟩
  | 37 => ⟨S4, .i32⟩
  | 38 => ⟨S1x4, .i32⟩
  | 39 => ⟨S1404x4, .i32⟩
  | 40 => ⟨S1404x4, .i32⟩
  | 41 => ⟨S1404x4, .i32⟩
  | 42 => ⟨S64x4x1, .i32⟩
  | 43 => ⟨S8x128x64x4x1407, .f32⟩
  | 44 => ⟨S1404x4x1, .i32⟩
  | 45 => ⟨S8x128x64x4x1404x4, .f32⟩
  | 46 => ⟨S64x8x64x1404, .f32⟩
  | 47 => ⟨S8x64x64x1404, .f32⟩
  | 48 => ⟨S1x64x1x1, .f32⟩
  | 49 => ⟨S8x64x64x1404, .f32⟩
  | 50 => ⟨S8x64x64x1404, .f32⟩
  | 51 => ⟨S_, .f32⟩
  | 52 => ⟨S8x64x64x1404, .f32⟩
  | 53 => ⟨S8x64x64x1404, .f32⟩
  | 54 => ⟨S64, .i32⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S1407, .i32⟩
  | 62 => ⟨S_, .i32⟩
  | 63 => ⟨S1407, .i32⟩
  | 64 => ⟨S1407, .i32⟩
  | 65 => ⟨S_, .i32⟩
  | 66 => ⟨S1407, .i32⟩
  | 67 => ⟨S1407, .i32⟩
  | 68 => ⟨S64x1, .i32⟩
  | 69 => ⟨S8x64x64x1404, .f32⟩
  | 70 => ⟨S1407x1, .i32⟩
  | 71 => ⟨S8x64x64x1407, .f32⟩
  | 72 => ⟨S_, .i32⟩
  | 73 => ⟨S_, .f32⟩
  | 74 => ⟨S8x64x66x1409, .f32⟩
  | 75 => ⟨S64, .i32⟩
  | 76 => ⟨S64x1, .i32⟩
  | 77 => ⟨S_, .i32⟩
  | 78 => ⟨S64x1, .i32⟩
  | 79 => ⟨S64x1, .i32⟩
  | 80 => ⟨S3, .i32⟩
  | 81 => ⟨S1x3, .i32⟩
  | 82 => ⟨S64x3, .i32⟩
  | 83 => ⟨S64x3, .i32⟩
  | 84 => ⟨S64x3, .i32⟩
  | 85 => ⟨S1407, .i32⟩
  | 86 => ⟨S1407x1, .i32⟩
  | 87 => ⟨S_, .i32⟩
  | 88 => ⟨S1407x1, .i32⟩
  | 89 => ⟨S1407x1, .i32⟩
  | 90 => ⟨S3, .i32⟩
  | 91 => ⟨S1x3, .i32⟩
  | 92 => ⟨S1407x3, .i32⟩
  | 93 => ⟨S1407x3, .i32⟩
  | 94 => ⟨S1407x3, .i32⟩
  | 95 => ⟨S64x3x1, .i32⟩
  | 96 => ⟨S8x64x64x3x1409, .f32⟩
  | 97 => ⟨S1407x3x1, .i32⟩
  | 98 => ⟨S8x64x64x3x1407x3, .f32⟩
  | 99 => ⟨S1x8x64x1407, .f32⟩
  | 100 => ⟨S8x1x64x1407, .f32⟩
  | 101 => ⟨S1x1x1x1, .f32⟩
  | 102 => ⟨S8x1x64x1407, .f32⟩
  | 103 => ⟨S8x1x64x1407, .f32⟩
  | 104 => ⟨S_, .f32⟩
  | 105 => ⟨S8x1x64x1407, .f32⟩
  | 106 => ⟨S8x1x64x1407, .f32⟩
  | 107 => ⟨S8x1x64x1407, .f32⟩
  | 108 => ⟨S_, .f32⟩
  | 109 => ⟨S8x1x64x1407, .f32⟩
  | 110 => ⟨S8x1x64x1407, .f32⟩
  | 111 => ⟨S8x1x64x1407, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S8x1x64x1407, .f32⟩
  | 119 => ⟨S_, .f32⟩
  | 120 => ⟨S_, .f32⟩
  | 121 => ⟨S8x1x64x1407, .f32⟩
  | 122 => ⟨S8x1x64x1407, .f32⟩
  | 123 => ⟨S_, .f32⟩
  | 124 => ⟨S_, .f32⟩
  | 125 => ⟨S_, .f32⟩
  | 126 => ⟨S_, .f32⟩
  | 127 => ⟨S_, .i1⟩
  | _ => ⟨S8x1x64x1407, .f32⟩

abbrev hbmTy0_2 (i : Nat) : BufTy := match i % 128 with
  | 0 => ⟨S8x1x64x1407, .f32⟩
  | 1 => ⟨S_, .f32⟩
  | 2 => ⟨S8x1x64x1407, .f32⟩
  | 3 => ⟨S8x1x64x1407, .f32⟩
  | 4 => ⟨S_, .f32⟩
  | 5 => ⟨S_, .f32⟩
  | 6 => ⟨S_, .f32⟩
  | 7 => ⟨S_, .f32⟩
  | 8 => ⟨S_, .i1⟩
  | 9 => ⟨S8x1x64x1407, .f32⟩
  | 10 => ⟨S_, .f32⟩
  | _ => ⟨S8x1x64x1407, .f32⟩

abbrev hbmTy (i : Nat) : BufTy := match i / 128 with
  | 0 => hbmTy0_0 i
  | 1 => hbmTy0_1 i
  | 2 => hbmTy0_2 i
  | _ => ⟨S8x1x64x1407, .f32⟩

abbrev bufTy : (tb : Table) → Fin (tcTables nBuf tb) → BufTy
  | .hbm, ⟨i, _⟩ => hbmTy i
  | _, _ => ⟨S8x1x64x1407, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_v19 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call3_cst : Ref sig .tc := ⟨.hbm, 44, rfl⟩
abbrev main_call3_v0 : Ref sig .tc := ⟨.hbm, 45, rfl⟩
abbrev main_v26 : Ref sig .tc := ⟨.hbm, 46, rfl⟩
abbrev main_c_2 : Ref sig .tc := ⟨.hbm, 47, rfl⟩
abbrev main_call4_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call5_v0 : Ref sig .tc := ⟨.hbm, 70, rfl⟩
abbrev main_v46 : Ref sig .tc := ⟨.hbm, 71, rfl⟩
abbrev main_call6_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call7_cst : Ref sig .tc := ⟨.hbm, 79, rfl⟩
abbrev main_call7_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_6 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call8_v0 : Ref sig .tc := ⟨.hbm, 101, rfl⟩
abbrev main_call8_cst : Ref sig .tc := ⟨.hbm, 102, rfl⟩
abbrev main_call8_c : Ref sig .tc := ⟨.hbm, 103, rfl⟩
abbrev main_call8_v1_0 : Ref sig .tc := ⟨.hbm, 104, rfl⟩
abbrev main_v70 : Ref sig .tc := ⟨.hbm, 105, rfl⟩
abbrev main_call9_v0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_7 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_8 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_9 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call11_v0 : Ref sig .tc := ⟨.hbm, 134, rfl⟩
abbrev main_v95 : Ref sig .tc := ⟨.hbm, 135, rfl⟩
abbrev main_call12_v0 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call13_cst : Ref sig .tc := ⟨.hbm, 143, rfl⟩
abbrev main_call13_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_10 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_11 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_12 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_call15_v0 : Ref sig .tc := ⟨.hbm, 170, rfl⟩
abbrev main_v124 : Ref sig .tc := ⟨.hbm, 171, rfl⟩
abbrev main_call16_v0 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_call17_cst : Ref sig .tc := ⟨.hbm, 179, rfl⟩
abbrev main_call17_v0 : Ref sig .tc := ⟨.hbm, 180, rfl⟩
abbrev main_v131 : Ref sig .tc := ⟨.hbm, 181, rfl⟩
abbrev main_v132 : Ref sig .tc := ⟨.hbm, 182, rfl⟩
abbrev main_c_13 : Ref sig .tc := ⟨.hbm, 183, rfl⟩
abbrev main_v133 : Ref sig .tc := ⟨.hbm, 184, rfl⟩
abbrev main_v134 : Ref sig .tc := ⟨.hbm, 185, rfl⟩
abbrev main_c_14 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_c_15 : Ref sig .tc := ⟨.hbm, 190, rfl⟩
abbrev main_v138 : Ref sig .tc := ⟨.hbm, 191, rfl⟩
abbrev main_v139 : Ref sig .tc := ⟨.hbm, 192, rfl⟩
abbrev main_c_16 : Ref sig .tc := ⟨.hbm, 193, rfl⟩
abbrev main_v140 : Ref sig .tc := ⟨.hbm, 194, rfl⟩
abbrev main_v141 : Ref sig .tc := ⟨.hbm, 195, rfl⟩
abbrev main_call18_v0 : Ref sig .tc := ⟨.hbm, 196, rfl⟩
abbrev main_v142 : Ref sig .tc := ⟨.hbm, 197, rfl⟩
abbrev main_call19_v0 : Ref sig .tc := ⟨.hbm, 198, rfl⟩
abbrev main_v143 : Ref sig .tc := ⟨.hbm, 199, rfl⟩
abbrev main_c_17 : Ref sig .tc := ⟨.hbm, 200, rfl⟩
abbrev main_call20_v0 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_18 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_c_19 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_call21_v0 : Ref sig .tc := ⟨.hbm, 223, rfl⟩
abbrev main_v163 : Ref sig .tc := ⟨.hbm, 224, rfl⟩
abbrev main_call22_v0 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_call23_cst : Ref sig .tc := ⟨.hbm, 232, rfl⟩
abbrev main_call23_v0 : Ref sig .tc := ⟨.hbm, 233, rfl⟩
abbrev main_v170 : Ref sig .tc := ⟨.hbm, 234, rfl⟩
abbrev main_v171 : Ref sig .tc := ⟨.hbm, 235, rfl⟩
abbrev main_cst_20 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_cst_21 : Ref sig .tc := ⟨.hbm, 240, rfl⟩
abbrev main_v175 : Ref sig .tc := ⟨.hbm, 241, rfl⟩
abbrev main_cst_22 : Ref sig .tc := ⟨.hbm, 242, rfl⟩
abbrev main_v176 : Ref sig .tc := ⟨.hbm, 243, rfl⟩
abbrev main_cst_23 : Ref sig .tc := ⟨.hbm, 244, rfl⟩
abbrev main_v177 : Ref sig .tc := ⟨.hbm, 245, rfl⟩
abbrev main_v178 : Ref sig .tc := ⟨.hbm, 246, rfl⟩
abbrev main_cst_24 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_25 : Ref sig .tc := ⟨.hbm, 251, rfl⟩
abbrev main_v182 : Ref sig .tc := ⟨.hbm, 252, rfl⟩
abbrev main_cst_26 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_cst_27 : Ref sig .tc := ⟨.hbm, 260, rfl⟩
abbrev main_v189 : Ref sig .tc := ⟨.hbm, 261, rfl⟩
abbrev main_cst_28 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩

abbrev nD : Nat := 1
abbrev τ : Topo := Topo.v7x

variable {F : FTy → Type} [FloatOps F]
-- ==== Proof.RefOps.lean ====
/-
  The reference as a straight line of host operations, cut where a stage of the network ends, and its run: every
  buffer ends at the fold of the operations over the launch contents, one stage's contents after another (`R0` … `R8`).
-/
module

public import proofs.«01_k».proof.ReferenceIdeal
public import proofs.«01_k».proof.Proof.Gen.ReferenceIdeal
public import Idealize.ShloMosaic.Lib.StableHlo.Run
public import Idealize.ShloMosaic.Adequacy
public import Idealize.ShloMosaic.Init

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of the first convolution. -/
abbrev ops0 : List (HloOp τ sig (Elt F)) :=
  ( nullary main_c (constantI S_ 32 0#32)
  :: TRef.unary (.of main_c : TRef sig ⟨S_, .i32⟩) (.of main_call0_v0 : TRef sig ⟨S_, .f32⟩) (sitofp .f32)
  :: TRef.binary (.of main_arg0 : TRef sig ⟨S8x1x64x1407, .f32⟩) (.of main_call0_v0 : TRef sig ⟨S_, .f32⟩) (.of main_v0 : TRef sig ⟨S8x1x66x1409, .f32⟩) (fun x v => pad S8x1x66x1409 ![0, 0, 1, 1] ![0, 0, 1, 1] ![0, 0, 0, 0] x v pads_S8x1x64x1407_S8x1x66x1409_000_000_110_110 h_S_)
  :: nullary main_v1 (iotaInDim S32 32 0)
  :: unary main_v1 main_v2 (broadcastInDim S32x1 ![0] bcast_S32_S32x1_0 : (⟨S32, .i32⟩ : BufTy).Contents (Elt F) → (⟨S32x1, .i32⟩ : BufTy).Contents (Elt F))
  :: nullary main_c_0 (constantI S_ 32 2#32)
  :: unary main_c_0 main_v3 (broadcastInDim S32x1 ![] bcast_S_S32x1 : (⟨S_, .i32⟩ : BufTy).Contents (Elt F) → (⟨S32x1, .i32⟩ : BufTy).Contents (Elt F))
  :: binary main_v3 main_v2 main_v4 (muli : (⟨S32x1, .i32⟩ : BufTy).Contents (Elt F) → (⟨S32x1, .i32⟩ : BufTy).Contents (Elt F) → (⟨S32x1, .i32⟩ : BufTy).Contents (Elt F))
  :: nullary main_v5 (iotaInDim S4 32 0)
  :: unary main_v5 main_v6 (broadcastInDim S1x4 ![1] bcast_S4_S1x4_1 : (⟨S4, .i32⟩ : BufTy).Contents (Elt F) → (⟨S1x4, .i32⟩ : BufTy).Contents (Elt F))
  :: unary main_v4 main_v7 (broadcastInDim S32x4 ![0, 1] bcast_S32x1_S32x4_0_1 : (⟨S32x1, .i32⟩ : BufTy).Contents (Elt F) → (⟨S32x4, .i32⟩ : BufTy).Contents (Elt F))
  :: unary main_v6 main_v8 (broadcastInDim S32x4 ![0, 1] bcast_S1x4_S32x4_0_1 : (⟨S1x4, .i32⟩ : BufTy).Contents (Elt F) → (⟨S32x4, .i32⟩ : BufTy).Contents (Elt F))
  :: binary main_v7 main_v8 main_v9 (addi : (⟨S32x4, .i32⟩ : BufTy).Contents (Elt F) → (⟨S32x4, .i32⟩ : BufTy).Contents (Elt F) → (⟨S32x4, .i32⟩ : BufTy).Contents (Elt F))
  :: nullary main_v10 (iotaInDim S703 32 0)
  :: unary main_v10 main_v11 (broadcastInDim S703x1 ![0] bcast_S703_S703x1_0 : (⟨S703, .i32⟩ : BufTy).Contents (Elt F) → (⟨S703x1, .i32⟩ : BufTy).Contents (Elt F))
  :: nullary main_c_1 (constantI S_ 32 2#32)
  :: unary main_c_1 main_v12 (broadcastInDim S703x1 ![] bcast_S_S703x1 : (⟨S_, .i32⟩ : BufTy).Contents (Elt F) → (⟨S703x1, .i32⟩ : BufTy).Contents (Elt F))
  :: binary main_v12 main_v11 main_v13 (muli : (⟨S703x1, .i32⟩ : BufTy).Contents (Elt F) → (⟨S703x1, .i32⟩ : BufTy).Contents (Elt F) → (⟨S703x1, .i32⟩ : BufTy).Contents (Elt F))
  :: nullary main_v14 (iotaInDim S4 32 0)
  :: unary main_v14 main_v15 (broadcastInDim S1x4 ![1] bcast_S4_S1x4_1 : (⟨S4, .i32⟩ : BufTy).Contents (Elt F) → (⟨S1x4, .i32⟩ : BufTy).Contents (Elt F))
  :: unary main_v13 main_v16 (broadcastInDim S703x4 ![0, 1] bcast_S703x1_S703x4_0_1 : (⟨S703x1, .i32⟩ : BufTy).Contents (Elt F) → (⟨S703x4, .i32⟩ : BufTy).Contents (Elt F))
  :: unary main_v15 main_v17 (broadcastInDim S703x4 ![0, 1] bcast_S1x4_S703x4_0_1 : (⟨S1x4, .i32⟩ : BufTy).Contents (Elt F) → (⟨S703x4, .i32⟩ : BufTy).Contents (Elt F))
  :: binary main_v16 main_v17 main_v18 (addi : (⟨S703x4, .i32⟩ : BufTy).Contents (Elt F) → (⟨S703x4, .i32⟩ : BufTy).Contents (Elt F) → (⟨S703x4, .i32⟩ : BufTy).Contents (Elt F))
  :: TRef.unary (.of main_v9 : TRef sig ⟨S32x4, .i32⟩) (.of main_call1_v0 : TRef sig ⟨S32x4x1, .i32⟩) (broadcastInDim S32x4x1 ![0, 1] bcast_S32x4_S32x4x1_0_1)
  :: TRef.binary (.of main_v0 : TRef sig ⟨S8x1x66x1409, .f32⟩) (.of main_call1_v0 : TRef sig ⟨S32x4x1, .i32⟩) (.of main_v19 : TRef sig ⟨S8x1x32x4x1409, .f32⟩) (fun x i => Host.gather gather_S8x1x66x1409_S32x4x1_S8x1x32x4x1409_014_2_n_n_2_2_8111409 x i)
  :: TRef.unary (.of main_v18 : TRef sig ⟨S703x4, .i32⟩) (.of main_call2_v0 : TRef sig ⟨S703x4x1, .i32⟩) (broadcastInDim S703x4x1 ![0, 1] bcast_S703x4_S703x4x1_0_1)
  :: TRef.binary (.of main_v19 : TRef sig ⟨S8x1x32x4x1409, .f32⟩) (.of main_call2_v0 : TRef sig ⟨S703x4x1, .i32⟩) (.of main_v20 : TRef sig ⟨S8x1x32x4x703x4, .f32⟩) (fun x i => Host.gather gather_S8x1x32x4x1409_S703x4x1_S8x1x32x4x703x4_0123_4_n_n_4_2_813241 x i)
  :: binary main_arg1 main_v20 main_v21 ((fun l r => Host.dotGeneral dot_S128x1x4x4_S8x1x32x4x703x4_S128x8x32x703_123_135_0_024_n_n none l r) : (⟨S128x1x4x4, .f32⟩ : BufTy).Contents (Elt F) → (⟨S8x1x32x4x703x4, .f32⟩ : BufTy).Contents (Elt F) → (⟨S128x8x32x703, .f32⟩ : BufTy).Contents (Elt F))
  :: unary main_v21 main_v22 ((transpose S8x128x32x703 [1, 0, 2, 3] · transposes_S128x8x32x703_S8x128x32x703_1_0_2_3) : (⟨S128x8x32x703, .f32⟩ : BufTy).Contents (Elt F) → (⟨S8x128x32x703, .f32⟩ : BufTy).Contents (Elt F))
  :: unary main_arg2 main_v23 (broadcastInDim S1x128x1x1 ![1] bcast_S128_S1x128x1x1_1 : (⟨S128, .f32⟩ : BufTy).Contents (Elt F) → (⟨S1x128x1x1, .f32⟩ : BufTy).Contents (Elt F))
  :: unary main_v23 main_v24 (broadcastInDim S8x128x32x703 ![0, 1, 2, 3] bcast_S1x128x1x1_S8x128x32x703_0_1_2_3 : (⟨S1x128x1x1, .f32⟩ : BufTy).Contents (Elt F) → (⟨S8x128x32x703, .f32⟩ : BufTy).Contents (Elt F))
  :: binary main_v22 main_v24 main_v25 (addf : (⟨S8x128x32x703, .f32⟩ : BufTy).Contents (Elt F) → (⟨S8x128x32x703, .f32⟩ : BufTy).Contents (Elt F) → (⟨S8x128x32x703, .f32⟩ : BufTy).Contents (Elt F))
  :: TRef.nullary (.of main_call3_cst : TRef sig ⟨S_, .f32⟩) (constant S_ .f32 0x00000000#32)
  :: TRef.unary (.of main_call3_cst : TRef sig ⟨S_, .f32⟩) (.of main_call3_v0 : TRef sig ⟨S8x128x32x703, .f32⟩) (broadcastInDim S8x128x32x703 ![] bcast_S_S8x128x32x703)
  :: TRef.binary (.of main_v25 : TRef sig ⟨S8x128x32x703, .f32⟩) (.of main_call3_v0 : TRef sig ⟨S8x128x32x703, .f32⟩) (.of main_v26 : TRef sig ⟨S8x128x32x703, .f32⟩) maximumf
  :: [] )
/-- What they write. -/
abbrev wr0 : List (Ref sig .tc) := [main_c, main_call0_v0, main_v0, main_v1, main_v2, main_c_0, main_v3, main_v4, main_v5, main_v6, main_v7, main_v8, main_v9, main_v10, main_v11, main_c_1, main_v12, main_v13, main_v14, main_v15, main_v16, main_v17, main_v18, main_call1_v0, main_v19, main_call2_v0, main_v20, main_v21, main_v22, main_v23, main_v24, main_v25, main_call3_cst, main_call3_v0, main_v26]
theorem wr0_spec : (ops0 : List (HloOp τ sig (Elt F))).Forall fun op => op.writes ⊆ (wr0.map (Proc.devRef (τ := τ) .tc)).toFinset :=
  forall_writes_sub_of_map rfl
theorem sub0 : (ops0 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩
theorem fresh0 : ∀ op ∈ (ops0 : List (HloOp τ sig (Elt F))), op.fresh = ∅ := by
  intro _ h; (repeat (cases h with | head => rfl | tail _ h => ?_)); exact nomatch h

/-- The operations of the second convolution. -/
abbrev ops1 : List (HloOp τ sig (Elt F)) :=
  ( nullary main_c_2 (constantI S_ 32 0#32)
  :: TRef.unary (.of main_c_2 : TRef sig ⟨S_, .i32⟩) (.of main_call4_v0 : TRef sig ⟨S_, .f32⟩) (sitofp .f32)
  :: TRef.binary (.of main_v26 : TRef sig ⟨S8x128x32x703, .f32⟩) (.of main_call4_v0 : TRef sig ⟨S_, .f32⟩) (.of main_v27 : TRef sig ⟨S8x128x34x705, .f32⟩) (fun x v => pad S8x128x34x705 ![0, 0, 1, 1] ![0, 0, 1, 1] ![0, 0, 0, 0] x v pads_S8x128x32x703_S8x128x34x705_000_000_110_110 h_S_)
  :: nullary main_v28 (iotaInDim S16 32 0)
  :: unary main_v28 main_v29 (broadcastInDim S16x1 ![0] bcast_S16_S16x1_0 : (⟨S16, .i32⟩ : BufTy).Contents (Elt F) → (⟨S16x1, .i32⟩ : BufTy).Contents (Elt F))
  :: nullary main_c_3 (constantI S_ 32 2#32)
  :: unary main_c_3 main_v30 (broadcastInDim S16x1 ![] bcast_S_S16x1 : (⟨S_, .i32⟩ : BufTy).Contents (Elt F) → (⟨S16x1, .i32⟩ : BufTy).Contents (Elt F))
  :: binary main_v30 main_v29 main_v31 (muli : (⟨S16x1, .i32⟩ : BufTy).Contents (Elt F) → (⟨S16x1, .i32⟩ : BufTy).Contents (Elt F) → (⟨S16x1, .i32⟩ : BufTy).Contents (Elt F))
  :: nullary main_v32 (iotaInDim S4 32 0)
  :: unary main_v32 main_v33 (broadcastInDim S1x4 ![1] bcast_S4_S1x4_1 : (⟨S4, .i32⟩ : BufTy).Contents (Elt F) → (⟨S1x4, .i32⟩ : BufTy).Contents (Elt F))
  :: unary main_v31 main_v34 (broadcastInDim S16x4 ![0, 1] bcast_S16x1_S16x4_0_1 : (⟨S16x1, .i32⟩ : BufTy).Contents (Elt F) → (⟨S16x4, .i32⟩ : BufTy).Contents (Elt F))
  :: unary main_v33 main_v35 (broadcastInDim S16x4 ![0, 1] bcast_S1x4_S16x4_0_1 : (⟨S1x4, .i32⟩ : BufTy).Contents (Elt F) → (⟨S16x4, .i32⟩ : BufTy).Contents (Elt F))
  :: binary main_v34 main_v35 main_v36 (addi : (⟨S16x4, .i32⟩ : BufTy).Contents (Elt F) → (⟨S16x4, .i32⟩ : BufTy).Contents (Elt F) → (⟨S16x4, .i32⟩ : BufTy).Contents (Elt F))
  :: nullary main_v37 (iotaInDim S351 32 0)
  :: unary main_v37 main_v38 (broadcastInDim S351x1 ![0] bcast_S351_S351x1_0 : (⟨S351, .i32⟩ : BufTy).Contents (Elt F) → (⟨S351x1, .i32⟩ : BufTy).Contents (Elt F))
  :: nullary main_c_4 (constantI S_ 32 2#32)
  :: unary main_c_4 main_v39 (broadcastInDim S351x1 ![] bcast_S_S351x1 : (⟨S_, .i32⟩ : BufTy).Contents (Elt F) → (⟨S351x1, .i32⟩ : BufTy).Contents (Elt F))
  :: binary main_v39 main_v38 main_v40 (muli : (⟨S351x1, .i32⟩ : BufTy).Contents (Elt F) → (⟨S351x1, .i32⟩ : BufTy).Contents (Elt F) → (⟨S351x1, .i32⟩ : BufTy).Contents (Elt F))
  :: nullary main_v41 (iotaInDim S4 32 0)
  :: unary main_v41 main_v42 (broadcastInDim S1x4 ![1] bcast_S4_S1x4_1 : (⟨S4, .i32⟩ : BufTy).Contents (Elt F) → (⟨S1x4, .i32⟩ : BufTy).Contents (Elt F))
  :: unary main_v40 main_v43 (broadcastInDim S351x4 ![0, 1] bcast_S351x1_S351x4_0_1 : (⟨S351x1, .i32⟩ : BufTy).Contents (Elt F) → (⟨S351x4, .i32⟩ : BufTy).Contents (Elt F))
  :: unary main_v42 main_v44 (broadcastInDim S351x4 ![0, 1] bcast_S1x4_S351x4_0_1 : (⟨S1x4, .i32⟩ : BufTy).Contents (Elt F) → (⟨S351x4, .i32⟩ : BufTy).Contents (Elt F))
  :: binary main_v43 main_v44 main_v45 (addi : (⟨S351x4, .i32⟩ : BufTy).Contents (Elt F) → (⟨S351x4, .i32⟩ : BufTy).Contents (Elt F) → (⟨S351x4, .i32⟩ : BufTy).Contents (Elt F))
  :: TRef.unary (.of main_v36 : TRef sig ⟨S16x4, .i32⟩) (.of main_call5_v0 : TRef sig ⟨S16x4x1, .i32⟩) (broadcastInDim S16x4x1 ![0, 1] bcast_S16x4_S16x4x1_0_1)
  :: TRef.binary (.of main_v27 : TRef sig ⟨S8x128x34x705, .f32⟩) (.of main_call5_v0 : TRef sig ⟨S16x4x1, .i32⟩) (.of main_v46 : TRef sig ⟨S8x128x16x4x705, .f32⟩) (fun x i => Host.gather gather_S8x128x34x705_S16x4x1_S8x128x16x4x705_014_2_n_n_2_2_81281705 x i)
  :: TRef.unary (.of main_v45 : TRef sig ⟨S351x4, .i32⟩) (.of main_call6_v0 : TRef sig ⟨S351x4x1, .i32⟩) (broadcastInDim S351x4x1 ![0, 1] bcast_S351x4_S351x4x1_0_1)
  :: TRef.binary (.of main_v46 : TRef sig ⟨S8x128x16x4x705, .f32⟩) (.of main_call6_v0 : TRef sig ⟨S351x4x1, .i32⟩) (.of main_v47 : TRef sig ⟨S8x128x16x4x351x4, .f32⟩) (fun x i => Host.gather gather_S8x128x16x4x705_S351x4x1_S8x128x16x4x351x4_0123_4_n_n_4_2_81281641 x i)
  :: binary main_arg3 main_v47 main_v48 ((fun l r => Host.dotGeneral dot_S64x128x4x4_S8x128x16x4x351x4_S64x8x16x351_123_135_0_024_n_n none l r) : (⟨S64x128x4x4, .f32⟩ : BufTy).Contents (Elt F) → (⟨S8x128x16x4x351x4, .f32⟩ : BufTy).Contents (Elt F) → (⟨S64x8x16x351, .f32⟩ : BufTy).Contents (Elt F))
  :: unary main_v48 main_v49 ((transpose S8x64x16x351 [1, 0, 2, 3] · transposes_S64x8x16x351_S8x64x16x351_1_0_2_3) : (⟨S64x8x16x351, .f32⟩ : BufTy).Contents (Elt F) → (⟨S8x64x16x351, .f32⟩ : BufTy).Contents (Elt F))
  :: unary main_arg4 main_v50 (broadcastInDim S1x64x1x1 ![1] bcast_S64_S1x64x1x1_1 : (⟨S64, .f32⟩ : BufTy).Contents (Elt F) → (⟨S1x64x1x1, .f32⟩ : BufTy).Contents (Elt F))
  :: unary main_v50 main_v51 (broadcastInDim S8x64x16x351 ![0, 1, 2, 3] bcast_S1x64x1x1_S8x64x16x351_0_1_2_3 : (⟨S1x64x1x1, .f32⟩ : BufTy).Contents (Elt F) → (⟨S8x64x16x351, .f32⟩ : BufTy).Contents (Elt F))
  :: binary main_v49 main_v51 main_v52 (addf : (⟨S8x64x16x351, .f32⟩ : BufTy).Contents (Elt F) → (⟨S8x64x16x351, .f32⟩ : BufTy).Contents (Elt F) → (⟨S8x64x16x351, .f32⟩ : BufTy).Contents (Elt F))
  :: TRef.nullary (.of main_call7_cst : TRef sig ⟨S_, .f32⟩) (constant S_ .f32 0x00000000#32)
  :: TRef.unary (.of main_call7_cst : TRef sig ⟨S_, .f32⟩) (.of main_call7_v0 : TRef sig ⟨S8x64x16x351, .f32⟩) (broadcastInDim S8x64x16x351 ![] bcast_S_S8x64x16x351)
  :: TRef.binary (.of main_v52 : TRef sig ⟨S8x64x16x351, .f32⟩) (.of main_call7_v0 : TRef sig ⟨S8x64x16x351, .f32⟩) (.of main_v53 : TRef sig ⟨S8x64x16x351, .f32⟩) maximumf
  :: [] )
/-- What they write. -/
abbrev wr1 : List (Ref sig .tc) := [main_c_2, main_call4_v0, main_v27, main_v28, main_v29, main_c_3, main_v30, main_v31, main_v32, main_v33, main_v34, main_v35, main_v36, main_v37, main_v38, main_c_4, main_v39, main_v40, main_v41, main_v42, main_v43, main_v44, main_v45, main_call5_v0, main_v46, main_call6_v0, main_v47, main_v48, main_v49, main_v50, main_v51, main_v52, main_call7_cst, main_call7_v0, main_v53]
theorem wr1_spec : (ops1 : List (HloOp τ sig (Elt F))).Forall fun op => op.writes ⊆ (wr1.map (Proc.devRef (τ := τ) .tc)).toFinset :=
  forall_writes_sub_of_map rfl
theorem sub1 : (ops1 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩
theorem fresh1 : ∀ op ∈ (ops1 : List (HloOp τ sig (Elt F))), op.fresh = ∅ := by
  intro _ h; (repeat (cases h with | head => rfl | tail _ h => ?_)); exact nomatch h

/-- The operations of the quantisation. -/
abbrev ops2 : List (HloOp τ sig (Elt F)) :=
  ( reshape main_v53 main_v54 (rfl : (.f32 : EltTy) = .f32) shapeCasts_S8x64x16x351_S8x64x5616
  :: unary main_v54 main_v55 ((transpose S8x5616x64 [0, 2, 1] · transposes_S8x64x5616_S8x5616x64_0_2_1) : (⟨S8x64x5616, .f32⟩ : BufTy).Contents (Elt F) → (⟨S8x5616x64, .f32⟩ : BufTy).Contents (Elt F))
  :: binary main_v55 main_v55 main_v56 (mulf : (⟨S8x5616x64, .f32⟩ : BufTy).Contents (Elt F) → (⟨S8x5616x64, .f32⟩ : BufTy).Contents (Elt F) → (⟨S8x5616x64, .f32⟩ : BufTy).Contents (Elt F))
  :: nullary main_cst (constant S_ .f32 0x00000000#32)
  :: binary main_v56 main_cst main_v57 ((fun x v => Host.reduceAdd x v reducesTo_S8x5616x64_S8x5616_d2 h_S_) : (⟨S8x5616x64, .f32⟩ : BufTy).Contents (Elt F) → (⟨S_, .f32⟩ : BufTy).Contents (Elt F) → (⟨S8x5616, .f32⟩ : BufTy).Contents (Elt F))
  :: unary main_v57 main_v58 (broadcastInDim S8x5616x1 ![0, 1] bcast_S8x5616_S8x5616x1_0_1 : (⟨S8x5616, .f32⟩ : BufTy).Contents (Elt F) → (⟨S8x5616x1, .f32⟩ : BufTy).Contents (Elt F))
  :: binary main_arg5 main_arg5 main_v59 (mulf : (⟨S512x64, .f32⟩ : BufTy).Contents (Elt F) → (⟨S512x64, .f32⟩ : BufTy).Contents (Elt F) → (⟨S512x64, .f32⟩ : BufTy).Contents (Elt F))
  :: nullary main_cst_5 (constant S_ .f32 0x00000000#32)
  :: binary main_v59 main_cst_5 main_v60 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F))
  :: unary main_v60 main_v61 (broadcastInDim S1x1x512 ![2] bcast_S512_S1x1x512_2 : (⟨S512, .f32⟩ : BufTy).Contents (Elt F) → (⟨S1x1x512, .f32⟩ : BufTy).Contents (Elt F))
  :: unary main_v58 main_v62 (broadcastInDim S8x5616x512 ![0, 1, 2] bcast_S8x5616x1_S8x5616x512_0_1_2 : (⟨S8x5616x1, .f32⟩ : BufTy).Contents (Elt F) → (⟨S8x5616x512, .f32⟩ : BufTy).Contents (Elt F))
  :: unary main_v61 main_v63 (broadcastInDim S8x5616x512 ![0, 1, 2] bcast_S1x1x512_S8x5616x512_0_1_2 : (⟨S1x1x512, .f32⟩ : BufTy).Contents (Elt F) → (⟨S8x5616x512, .f32⟩ : BufTy).Contents (Elt F))
  :: binary main_v62 main_v63 main_v64 (addf : (⟨S8x5616x512, .f32⟩ : BufTy).Contents (Elt F) → (⟨S8x5616x512, .f32⟩ : BufTy).Contents (Elt F) → (⟨S8x5616x512, .f32⟩ : BufTy).Contents (Elt F))
  :: unary main_arg5 main_v65 ((transpose S64x512 [1, 0] · transposes_S512x64_S64x512_1_0) : (⟨S512x64, .f32⟩ : BufTy).Contents (Elt F) → (⟨S64x512, .f32⟩ : BufTy).Contents (Elt F))
  :: binary main_v55 main_v65 main_v66 ((fun l r => Host.dotGeneral dot_S8x5616x64_S64x512_S8x5616x512_2_0_01_1_n_n none l r) : (⟨S8x5616x64, .f32⟩ : BufTy).Contents (Elt F) → (⟨S64x512, .f32⟩ : BufTy).Contents (Elt F) → (⟨S8x5616x512, .f32⟩ : BufTy).Contents (Elt F))
  :: nullary main_cst_6 (constant S_ .f32 0x40000000#32)
  :: unary main_cst_6 main_v67 (broadcastInDim S8x5616x512 ![] bcast_S_S8x5616x512 : (⟨S_, .f32⟩ : BufTy).Contents (Elt F) → (⟨S8x5616x512, .f32⟩ : BufTy).Contents (Elt F))
  :: binary main_v67 main_v66 main_v68 (mulf : (⟨S8x5616x512, .f32⟩ : BufTy).Contents (Elt F) → (⟨S8x5616x512, .f32⟩ : BufTy).Contents (Elt F) → (⟨S8x5616x512, .f32⟩ : BufTy).Contents (Elt F))
  :: binary main_v64 main_v68 main_v69 (subf : (⟨S8x5616x512, .f32⟩ : BufTy).Contents (Elt F) → (⟨S8x5616x512, .f32⟩ : BufTy).Contents (Elt F) → (⟨S8x5616x512, .f32⟩ : BufTy).Contents (Elt F))
  :: TRef.nullary (.of main_call8_v0 : TRef sig ⟨S8x5616x512, .i32⟩) (iotaInDim S8x5616x512 32 2)
  :: TRef.nullary (.of main_call8_cst : TRef sig ⟨S_, .f32⟩) (constant S_ .f32 0x7F800000#32)
  :: TRef.nullary (.of main_call8_c : TRef sig ⟨S_, .i32⟩) (constantI S_ 32 0#32)
  :: TRef.quaternary (.of main_v69 : TRef sig ⟨S8x5616x512, .f32⟩) (.of main_call8_v0 : TRef sig ⟨S8x5616x512, .i32⟩) (.of main_call8_cst : TRef sig ⟨S_, .f32⟩) (.of main_call8_c : TRef sig ⟨S_, .i32⟩) (.of main_call8_v1_0 : TRef sig ⟨S8x5616, .f32⟩) (fun x y u v j => (Host.argReduce reducer_argmin_f32_i32 x y u v reducesTo_S8x5616x512_S8x5616_d2 h_S_ j).1)
  :: TRef.quaternary (.of main_v69 : TRef sig ⟨S8x5616x512, .f32⟩) (.of main_call8_v0 : TRef sig ⟨S8x5616x512, .i32⟩) (.of main_call8_cst : TRef sig ⟨S_, .f32⟩) (.of main_call8_c : TRef sig ⟨S_, .i32⟩) (.of main_v70 : TRef sig ⟨S8x5616, .i32⟩) (fun x y u v j => (Host.argReduce reducer_argmin_f32_i32 x y u v reducesTo_S8x5616x512_S8x5616_d2 h_S_ j).2)
  :: TRef.unary (.of main_v70 : TRef sig ⟨S8x5616, .i32⟩) (.of main_call9_v0 : TRef sig ⟨S8x5616x1, .i32⟩) (broadcastInDim S8x5616x1 ![0, 1] bcast_S8x5616_S8x5616x1_0_1)
  :: TRef.binary (.of main_arg5 : TRef sig ⟨S512x64, .f32⟩) (.of main_call9_v0 : TRef sig ⟨S8x5616x1, .i32⟩) (.of main_v71 : TRef sig ⟨S8x5616x64, .f32⟩) (fun x i => Host.gather gather_S512x64_S8x5616x1_S8x5616x64_2_0_n_n_0_2_164 x i)
  :: unary main_v71 main_v72 ((transpose S8x64x5616 [0, 2, 1] · transposes_S8x5616x64_S8x64x5616_0_2_1) : (⟨S8x5616x64, .f32⟩ : BufTy).Contents (Elt F) → (⟨S8x64x5616, .f32⟩ : BufTy).Contents (Elt F))
  :: reshape main_v72 main_v73 (rfl : (.f32 : EltTy) = .f32) shapeCasts_S8x64x5616_S8x64x16x351
  :: [] )
/-- What they write. -/
abbrev wr2 : List (Ref sig .tc) := [main_v54, main_v55, main_v56, main_cst, main_v57, main_v58, main_v59, main_cst_5, main_v60, main_v61, main_v62, main_v63, main_v64, main_v65, main_v66, main_cst_6, main_v67, main_v68, main_v69, main_call8_v0, main_call8_cst, main_call8_c, main_call8_v1_0, main_v70, main_call9_v0, main_v71, main_v72, main_v73]
theorem wr2_spec : (ops2 : List (HloOp τ sig (Elt F))).Forall fun op => op.writes ⊆ (wr2.map (Proc.devRef (τ := τ) .tc)).toFinset :=
  forall_writes_sub_of_map rfl
theorem sub2 : (ops2 : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., binary_bufs_sub .., unary_bufs_sub .., reshape_bufs_sub ..⟩
theorem fresh2 : ∀ op ∈ (ops2 : List (HloOp τ sig (Elt F))), op.fresh = ∅ := by
  intro _ h; (repeat (cases h with | head => rfl | tail _ h => ?_)); exact nomatch h

/-- The operations of the first transposed convolution. -/
abbrev ops3 : List (HloOp τ sig (Elt F)) :=
  ( TRef.unary (.of main_arg6 : TRef sig ⟨S64x128x4x4, .f32⟩) (.of main_v74 : TRef sig ⟨S64x128x4x4, .f32⟩) (Host.reverse [2, 3])
  :: unary main_v74 main_v75 ((transpose S128x64x4x4 [1, 0, 2, 3] · transposes_S64x128x4x4_S128x64x4x4_1_0_2_3) : (⟨S64x128x4x4, .f32⟩ : BufTy).Contents (Elt F) → (⟨S128x64x4x4, .f32⟩ : BufTy).Contents (Elt F))
  :: nullary main_cst_7 (constant S_ .f32 0x00000000#32)
  :: binary main_v73 main_cst_7 main_v76 ((fun x v => pad S8x64x35x705 ![0, 0, 2, 2] ![0, 0, 2, 2] ![0, 0, 1, 1] x v pads_S8x64x16x351_S8x64x35x705_000_000_221_221 h_S_) : (⟨S8x64x16x351, .f32⟩ : BufTy).Contents (Elt F) → (⟨S_, .f32⟩ : BufTy).Contents (Elt F) → (⟨S8x64x35x705, .f32⟩ : BufTy).Contents (Elt F))
  :: nullary main_v77 (iotaInDim S32 32 0)
  :: unary main_v77 main_v78 (broadcastInDim S32x1 ![0] bcast_S32_S32x1_0 : (⟨S32, .i32⟩ : BufTy).Contents (Elt F) → (⟨S32x1, .i32⟩ : BufTy).Contents (Elt F))
  :: nullary main_c_8 (constantI S_ 32 1#32)
  :: unary main_c_8 main_v79 (broadcastInDim S32x1 ![] bcast_S_S32x1 : (⟨S_, .i32⟩ : BufTy).Contents (Elt F) → (⟨S32x1, .i32⟩ : BufTy).Contents (Elt F))
  :: binary main_v79 main_v78 main_v80 (muli : (⟨S32x1, .i32⟩ : BufTy).Contents (Elt F) → (⟨S32x1, .i32⟩ : BufTy).Contents (Elt F) → (⟨S32x1, .i32⟩ : BufTy).Contents (Elt F))
  :: nullary main_v81 (iotaInDim S4 32 0)
  :: unary main_v81 main_v82 (broadcastInDim S1x4 ![1] bcast_S4_S1x4_1 : (⟨S4, .i32⟩ : BufTy).Contents (Elt F) → (⟨S1x4, .i32⟩ : BufTy).Contents (Elt F))
  :: unary main_v80 main_v83 (broadcastInDim S32x4 ![0, 1] bcast_S32x1_S32x4_0_1 : (⟨S32x1, .i32⟩ : BufTy).Contents (Elt F) → (⟨S32x4, .i32⟩ : BufTy).Contents (Elt F))
  :: unary main_v82 main_v84 (broadcastInDim S32x4 ![0, 1] bcast_S1x4_S32x4_0_1 : (⟨S1x4, .i32⟩ : BufTy).Contents (Elt F) → (⟨S32x4, .i32⟩ : BufTy).Contents (Elt F))
  :: binary main_v83 main_v84 main_v85 (addi : (⟨S32x4, .i32⟩ : BufTy).Contents (Elt F) → (⟨S32x4, .i32⟩ : BufTy).Contents (Elt F) → (⟨S32x4, .i32⟩ : BufTy).Contents (Elt F))
  :: nullary main_v86 (iotaInDim S702 32 0)
  :: unary main_v86 main_v87 (broadcastInDim S702x1 ![0] bcast_S702_S702x1_0 : (⟨S702, .i32⟩ : BufTy).Contents (Elt F) → (⟨S702x1, .i32⟩ : BufTy).Contents (Elt F))
  :: nullary main_c_9 (constantI S_ 32 1#32)
  :: unary main_c_9 main_v88 (broadcastInDim S702x1 ![] bcast_S_S702x1 : (⟨S_, .i32⟩ : BufTy).Contents (Elt F) → (⟨S702x1, .i32⟩ : BufTy).Contents (Elt F))
  :: binary main_v88 main_v87 main_v89 (muli : (⟨S702x1, .i32⟩ : BufTy).Contents (Elt F) → (⟨S702x1, .i32⟩ : BufTy).Contents (Elt F) → (⟨S702x1, .i32⟩ : BufTy).Contents (Elt F))
  :: nullary main_v90 (iotaInDim S4 32 0)
  :: unary main_v90 main_v91 (broadcastInDim S1x4 ![1] bcast_S4_S1x4_1 : (⟨S4, .i32⟩ : BufTy).Contents (Elt F) → (⟨S1x4, .i32⟩ : BufTy).Contents (Elt F))
  :: unary main_v89 main_v92 (broadcastInDim S702x4 ![0, 1] bcast_S702x1_S702x4_0_1 : (⟨S702x1, .i32⟩ : BufTy).Contents (Elt F) → (⟨S702x4, .i32⟩ : BufTy).Contents (Elt F))
  :: unary main_v91 main_v93 (broadcastInDim S702x4 ![0, 1] bcast_S1x4_S702x4_0_1 : (⟨S1x4, .i32⟩ : BufTy).Contents (Elt F) → (⟨S702x4, .i32⟩ : BufTy).Contents (Elt F))
  :: binary main_v92 main_v93 main_v94 (addi : (⟨S702x4, .i32⟩ : BufTy).Contents (Elt F) → (⟨S702x4, .i32⟩ : BufTy).Contents (Elt F) → (⟨S702x4, .i32⟩ : BufTy).Contents (Elt F))
  :: TRef.unary (.of main_v85 : TRef sig ⟨S32x4, .i32⟩) (.of main_call11_v0 : TRef sig ⟨S32x4x1, .i32⟩) (broadcastInDim S32x4x1 ![0, 1] bcast_S32x4_S32x4x1_0_1)
  :: TRef.binary (.of main_v76 : TRef sig ⟨S8x64x35x705, .f32⟩) (.of main_call11_v0 : TRef sig ⟨S32x4x1, .i32⟩) (.of main_v95 : TRef sig ⟨S8x64x32x4x705, .f32⟩) (fun x i => Host.gather gather_S8x64x35x705_S32x4x1_S8x64x32x4x705_014_2_n_n_2_2_8641705 x i)
  :: TRef.unary (.of main_v94 : TRef sig ⟨S702x4, .i32⟩) (.of main_call12_v0 : TRef sig ⟨S702x4x1, .i32⟩) (broadcastInDim S702x4x1 ![0, 1] bcast_S702x4_S702x4x1_0_1)
  :: TRef.binary (.of main_v95 : TRef sig ⟨S8x64x32x4x705, .f32⟩) (.of main_call12_v0 : TRef sig ⟨S702x4x1, .i32⟩) (.of main_v96 : TRef sig ⟨S8x64x32x4x702x4, .f32⟩) (fun x i => Host.gather gather_S8x64x32x4x705_S702x4x1_S8x64x32x4x702x4_0123_4_n_n_4_2_8643241 x i)
  :: binary main_v75 main_v96 main_v97 ((fun l r => Host.dotGeneral dot_S128x64x4x4_S8x64x32x4x702x4_S128x8x32x702_123_135_0_024_n_n none l r) : (⟨S128x64x4x4, .f32⟩ : BufTy).Contents (Elt F) → (⟨S8x64x32x4x702x4, .f32⟩ : BufTy).Contents (Elt F) → (⟨S128x8x32x702, .f32⟩ : BufTy).Contents (Elt F))
  :: unary main_v97 main_v98 ((transpose S8x128x32x702 [1, 0, 2, 3] · transposes_S128x8x32x702_S8x128x32x702_1_0_2_3) : (⟨S128x8x32x702, .f32⟩ : BufTy).Contents (Elt F) → (⟨S8x128x32x702, .f32⟩ : BufTy).Contents (Elt F))
  :: unary main_arg7 main_v99 (broadcastInDim S1x128x1x1 ![1] bcast_S128_S1x128x1x1_1 : (⟨S128, .f32⟩ : BufTy).Contents (Elt F) → (⟨S1x128x1x1, .f32⟩ : BufTy).Contents (Elt F))
  :: unary main_v99 main_v100 (broadcastInDim S8x128x32x702 ![0, 1, 2, 3] bcast_S1x128x1x1_S8x128x32x702_0_1_2_3 : (⟨S1x128x1x1, .f32⟩ : BufTy).Contents (Elt F) → (⟨S8x128x32x702, .f32⟩ : BufTy).Contents (Elt F))
  :: binary main_v98 main_v100 main_v101 (addf : (⟨S8x128x32x702, .f32⟩ : BufTy).Contents (Elt F) → (⟨S8x128x32x702, .f32⟩ : BufTy).Contents (Elt F) → (⟨S8x128x32x702, .f32⟩ : BufTy).Contents (Elt F))
  :: TRef.nullary (.of main_call13_cst : TRef sig ⟨S_, .f32⟩) (constant S_ .f32 0x00000000#32)
  :: TRef.unary (.of main_call13_cst : TRef sig ⟨S_, .f32⟩) (.of main_call13_v0 : TRef sig ⟨S8x128x32x702, .f32⟩) (broadcastInDim S8x128x32x702 ![] bcast_S_S8x128x32x702)
  :: TRef.binary (.of main_v101 : TRef sig ⟨S8x128x32x702, .f32⟩) (.of main_call13_v0 : TRef sig ⟨S8x128x32x702, .f32⟩) (.of main_v102 : TRef sig ⟨S8x128x32x702, .f32⟩) maximumf
  :: [] )
/-- What they write. -/
abbrev wr3 : List (Ref sig .tc) := [main_v74, main_v75, main_cst_7, main_v76, main_v77, main_v78, main_c_8, main_v79, main_v80, main_v81, main_v82, main_v83, main_v84, main_v85, main_v86, main_v87, main_c_9, main_v88, main_v89, main_v90, main_v91, main_v92, main_v93, main_v94, main_call11_v0, main_v95, main_call12_v0, main_v96, main_v97, main_v98, main_v99, main_v100, main_v101, main_call13_cst, main_call13_v0, main_v102]
theorem wr3_spec : (ops3 : List (HloOp τ sig (Elt F))).Forall fun op => op.writes ⊆ (wr3.map (Proc.devRef (τ := τ) .tc)).toFinset :=
  forall_writes_sub_of_map rfl
theorem sub3 : (ops3 : List (HloOp τ sig (Elt F))).Forall fun op => op.bufs ⊆ tcRefs τ sig :=
  ⟨unary_bufs_sub .., unary_bufs_sub .., nullary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩
theorem fresh3 : ∀ op ∈ (ops3 : List (HloOp τ sig (Elt F))), op.fresh = ∅ := by
  intro _ h; (repeat (cases h with | head => rfl | tail _ h => ?_)); exact nomatch h

/-- The operations of the second transposed convolution. -/
abbrev ops4 : List (HloOp τ sig (Elt F)) :=
  ( TRef.unary (.of main_arg8 : TRef sig ⟨S128x64x4x4, .f32⟩) (.of main_v103 : TRef sig ⟨S128x64x4x4, .f32⟩) (Host.reverse [2, 3])
  :: unary main_v103 main_v104 ((transpose S64x128x4x4 [1, 0, 2, 3] · transposes_S128x64x4x4_S64x128x4x4_1_0_2_3) : (⟨S128x64x4x4, .f32⟩ : BufTy).Contents (Elt F) → (⟨S64x128x4x4, .f32⟩ : BufTy).Contents (Elt F))
  :: nullary main_cst_10 (constant S_ .f32 0x00000000#32)
  :: binary main_v102 main_cst_10 main_v105 ((fun x v => pad S8x128x67x1407 ![0, 0, 2, 2] ![0, 0, 2, 2] ![0, 0, 1, 1] x v pads_S8x128x32x702_S8x128x67x1407_000_000_221_221 h_S_) : (⟨S8x128x32x702, .f32⟩ : BufTy).Contents (Elt F) → (⟨S_, .f32⟩ : BufTy).Contents (Elt F) → (⟨S8x128x67x1407, .f32⟩ : BufTy).Contents (Elt F))
  :: nullary main_v106 (iotaInDim S64 32 0)
  :: unary main_v106 main_v107 (broadcastInDim S64x1 ![0] bcast_S64_S64x1_0 : (⟨S64, .i32⟩ : BufTy).Contents (Elt F) → (⟨S64x1, .i32⟩ : BufTy).Contents (Elt F))
  :: nullary main_c_11 (constantI S_ 32 1#32)
  :: unary main_c_11 main_v108 (broadcastInDim S64x1 ![] bcast_S_S64x1 : (⟨S_, .i32⟩ : BufTy).Contents (Elt F) → (⟨S64x1, .i32⟩ : BufTy).Contents (Elt F))
  :: binary main_v108 main_v107 main_v109 (muli : (⟨S64x1, .i32⟩ : BufTy).Contents (Elt F) → (⟨S64x1, .i32⟩ : BufTy).Contents (Elt F) → (⟨S64x1, .i32⟩ : BufTy).Contents (Elt F))
  :: nullary main_v110 (iotaInDim S4 32 0)
  :: unary main_v110 main_v111 (broadcastInDim S1x4 ![1] bcast_S4_S1x4_1 : (⟨S4, .i32⟩ : BufTy).Contents (Elt F) → (⟨S1x4, .i32⟩ : BufTy).Contents (Elt F))
  :: unary main_v109 main_v112 (broadcastInDim S64x4 ![0, 1] bcast_S64x1_S64x4_0_1 : (⟨S64x1, .i32⟩ : BufTy).Contents (Elt F) → (⟨S64x4, .i32⟩ : BufTy).Contents (Elt F))
  :: unary main_v111 main_v113 (broadcastInDim S64x4 ![0, 1] bcast_S1x4_S64x4_0_1 : (⟨S1x4, .i32⟩ : BufTy).Contents (Elt F) → (⟨S64x4, .i32⟩ : BufTy).Contents (Elt F))
  :: binary main_v112 main_v113 main_v114 (addi : (⟨S64x4, .i32⟩ : BufTy).Contents (Elt F) → (⟨S64x4, .i32⟩ : BufTy).Contents (Elt F) → (⟨S64x4, .i32⟩ : BufTy).Contents (Elt F))
  :: nullary main_v115 (iotaInDim S1404 32 0)
  :: unary main_v115 main_v116 (broadcastInDim S1404x1 ![0] bcast_S1404_S1404x1_0 : (⟨S1404, .i32⟩ : BufTy).Contents (Elt F) → (⟨S1404x1, .i32⟩ : BufTy).Contents (Elt F))
  :: nullary main_c_12 (constantI S_ 32 1#32)
  :: unary main_c_12 main_v117 (broadcastInDim S1404x1 ![] bcast_S_S1404x1 : (⟨S_, .i32⟩ : BufTy).Contents (Elt F) → (⟨S1404x1, .i32⟩ : BufTy).Contents (Elt F))
  :: binary main_v117 main_v116 main_v118 (muli : (⟨S1404x1, .i32⟩ : BufTy).Contents (Elt F) → (⟨S1404x1, .i32⟩ : BufTy).Contents (Elt F) → (⟨S1404x1, .i32⟩ : BufTy).Contents (Elt F))
  :: nullary main_v119 (iotaInDim S4 32 0)
  :: unary main_v119 main_v120 (broadcastInDim S1x4 ![1] bcast_S4_S1x4_1 : (⟨S4, .i32⟩ : BufTy).Contents (Elt F) → (⟨S1x4, .i32⟩ : BufTy).Contents (Elt F))
  :: unary main_v118 main_v121 (broadcastInDim S1404x4 ![0, 1] bcast_S1404x1_S1404x4_0_1 : (⟨S1404x1, .i32⟩ : BufTy).Contents (Elt F) → (⟨S1404x4, .i32⟩ : BufTy).Contents (Elt F))
  :: unary main_v120 main_v122 (broadcastInDim S1404x4 ![0, 1] bcast_S1x4_S1404x4_0_1 : (⟨S1x4, .i32⟩ : BufTy).Contents (Elt F) → (⟨S1404x4, .i32⟩ : BufTy).Contents (Elt F))
  :: binary main_v121 main_v122 main_v123 (addi : (⟨S1404x4, .i32⟩ : BufTy).Contents (Elt F) → (⟨S1404x4, .i32⟩ : BufTy).Contents (Elt F) → (⟨S1404x4, .i32⟩ : BufTy).Contents (Elt F))
  :: TRef.unary (.of main_v114 : TRef sig ⟨S64x4, .i32⟩) (.of main_call15_v0 : TRef sig ⟨S64x4x1, .i32⟩) (broadcastInDim S64x4x1 ![0, 1] bcast_S64x4_S64x4x1_0_1)
  :: TRef.binary (.of main_v105 : TRef sig ⟨S8x128x67x1407, .f32⟩) (.of main_call15_v0 : TRef sig ⟨S64x4x1, .i32⟩) (.of main_v124 : TRef sig ⟨S8x128x64x4x1407, .f32⟩) (fun x i => Host.gather gather_S8x128x67x1407_S64x4x1_S8x128x64x4x1407_014_2_n_n_2_2_812811407 x i)
  :: TRef.unary (.of main_v123 : TRef sig ⟨S1404x4, .i32⟩) (.of main_call16_v0 : TRef sig ⟨S1404x4x1, .i32⟩) (broadcastInDim S1404x4x1 ![0, 1] bcast_S1404x4_S1404x4x1_0_1)
  :: TRef.binary (.of main_v124 : TRef sig ⟨S8x128x64x4x1407, .f32⟩) (.of main_call16_v0 : TRef sig ⟨S1404x4x1, .i32⟩) (.of main_v125 : TRef sig ⟨S8x128x64x4x1404x4, .f32⟩) (fun x i => Host.gather gather_S8x128x64x4x1407_S1404x4x1_S8x128x64x4x1404x4_0123_4_n_n_4_2_81286441 x i)
  :: binary main_v104 main_v125 main_v126 ((fun l r => Host.dotGeneral dot_S64x128x4x4_S8x128x64x4x1404x4_S64x8x64x1404_123_135_0_024_n_n none l r) : (⟨S64x128x4x4, .f32⟩ : BufTy).Contents (Elt F) → (⟨S8x128x64x4x1404x4, .f32⟩ : BufTy).Contents (Elt F) → (⟨S64x8x64x1404, .f32⟩ : BufTy).Contents (Elt F))
  :: unary main_v126 main_v127 ((transpose S8x64x64x1404 [1, 0, 2, 3] · transposes_S64x8x64x1404_S8x64x64x1404_1_0_2_3) : (⟨S64x8x64x1404, .f32⟩ : BufTy).Contents (Elt F) → (⟨S8x64x64x1404, .f32⟩ : BufTy).Contents (Elt F))
  :: unary main_arg9 main_v128 (broadcastInDim S1x64x1x1 ![1] bcast_S64_S1x64x1x1_1 : (⟨S64, .f32⟩ : BufTy).Contents (Elt F) → (⟨S1x64x1x1, .f32⟩ : BufTy).Contents (Elt F))
  :: unary main_v128 main_v129 (broadcastInDim S8x64x64x1404 ![0, 1, 2, 3] bcast_S1x64x1x1_S8x64x64x1404_0_1_2_3 : (⟨S1x64x1x1, .f32⟩ : BufTy).Contents (Elt F) → (⟨S8x64x64x1404, .f32⟩ : BufTy).Contents (Elt F))
  :: binary main_v127 main_v129 main_v130 (addf : (⟨S8x64x64x1404, .f32⟩ : BufTy).Contents (Elt F) → (⟨S8x64x64x1404, .f32⟩ : BufTy).Contents (Elt F) → (⟨S8x64x64x1404, .f32⟩ : BufTy).Contents (Elt F))
  :: TRef.nullary (.of main_call17_cst : TRef sig ⟨S_, .f32⟩) (constant S_ .f32 0x00000000#32)
  :: TRef.unary (.of main_call17_cst : TRef sig ⟨S_, .f32⟩) (.of main_call17_v0 : TRef sig ⟨S8x64x64x1404, .f32⟩) (broadcastInDim S8x64x64x1404 ![] bcast_S_S8x64x64x1404)
  :: TRef.binary (.of main_v130 : TRef sig ⟨S8x64x64x1404, .f32⟩) (.of main_call17_v0 : TRef sig ⟨S8x64x64x1404, .f32⟩) (.of main_v131 : TRef sig ⟨S8x64x64x1404, .f32⟩) maximumf
  :: [] )
/-- What they write. -/
abbrev wr4 : List (Ref sig .tc) := [main_v103, main_v104, main_cst_10, main_v105, main_v106, main_v107, main_c_11, main_v108, main_v109, main_v110, main_v111, main_v112, main_v113, main_v114, main_v115, main_v116, main_c_12, main_v117, main_v118, main_v119, main_v120, main_v121, main_v122, main_v123, main_call15_v0, main_v124, main_call16_v0, main_v125, main_v126, main_v127, main_v128, main_v129, main_v130, main_call17_cst, main_call17_v0, main_v131]
theorem wr4_spec : (ops4 : List (HloOp τ sig (Elt F))).Forall fun op => op.writes ⊆ (wr4.map (Proc.devRef (τ := τ) .tc)).toFinset :=
  forall_writes_sub_of_map rfl
theorem sub4 : (ops4 : List (HloOp τ sig (Elt F))).Forall fun op => op.bufs ⊆ tcRefs τ sig :=
  ⟨unary_bufs_sub .., unary_bufs_sub .., nullary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩
theorem fresh4 : ∀ op ∈ (ops4 : List (HloOp τ sig (Elt F))), op.fresh = ∅ := by
  intro _ h; (repeat (cases h with | head => rfl | tail _ h => ?_)); exact nomatch h

/-- The operations of the resampling to the image size. -/
abbrev ops5 : List (HloOp τ sig (Elt F)) :=
  ( nullary main_v132 (iotaInDim S64 32 0)
  :: nullary main_c_13 (constantI S_ 32 64#32)
  :: unary main_c_13 main_v133 (broadcastInDim S64 ![] bcast_S_S64 : (⟨S_, .i32⟩ : BufTy).Contents (Elt F) → (⟨S64, .i32⟩ : BufTy).Contents (Elt F))
  :: binary main_v132 main_v133 main_v134 (muli : (⟨S64, .i32⟩ : BufTy).Contents (Elt F) → (⟨S64, .i32⟩ : BufTy).Contents (Elt F) → (⟨S64, .i32⟩ : BufTy).Contents (Elt F))
  :: nullary main_c_14 (constantI S_ 32 64#32)
  :: unary main_c_14 main_v135 (broadcastInDim S64 ![] bcast_S_S64 : (⟨S_, .i32⟩ : BufTy).Contents (Elt F) → (⟨S64, .i32⟩ : BufTy).Contents (Elt F))
  :: binary main_v134 main_v135 main_v136 (Host.divsi : (⟨S64, .i32⟩ : BufTy).Contents (Elt F) → (⟨S64, .i32⟩ : BufTy).Contents (Elt F) → (⟨S64, .i32⟩ : BufTy).Contents (Elt F))
  :: nullary main_v137 (iotaInDim S1407 32 0)
  :: nullary main_c_15 (constantI S_ 32 1404#32)
  :: unary main_c_15 main_v138 (broadcastInDim S1407 ![] bcast_S_S1407 : (⟨S_, .i32⟩ : BufTy).Contents (Elt F) → (⟨S1407, .i32⟩ : BufTy).Contents (Elt F))
  :: binary main_v137 main_v138 main_v139 (muli : (⟨S1407, .i32⟩ : BufTy).Contents (Elt F) → (⟨S1407, .i32⟩ : BufTy).Contents (Elt F) → (⟨S1407, .i32⟩ : BufTy).Contents (Elt F))
  :: nullary main_c_16 (constantI S_ 32 1407#32)
  :: unary main_c_16 main_v140 (broadcastInDim S1407 ![] bcast_S_S1407 : (⟨S_, .i32⟩ : BufTy).Contents (Elt F) → (⟨S1407, .i32⟩ : BufTy).Contents (Elt F))
  :: binary main_v139 main_v140 main_v141 (Host.divsi : (⟨S1407, .i32⟩ : BufTy).Contents (Elt F) → (⟨S1407, .i32⟩ : BufTy).Contents (Elt F) → (⟨S1407, .i32⟩ : BufTy).Contents (Elt F))
  :: TRef.unary (.of main_v136 : TRef sig ⟨S64, .i32⟩) (.of main_call18_v0 : TRef sig ⟨S64x1, .i32⟩) (broadcastInDim S64x1 ![0] bcast_S64_S64x1_0)
  :: TRef.binary (.of main_v131 : TRef sig ⟨S8x64x64x1404, .f32⟩) (.of main_call18_v0 : TRef sig ⟨S64x1, .i32⟩) (.of main_v142 : TRef sig ⟨S8x64x64x1404, .f32⟩) (fun x i => Host.gather gather_S8x64x64x1404_S64x1_S8x64x64x1404_013_2_n_n_2_1_86411404 x i)
  :: TRef.unary (.of main_v141 : TRef sig ⟨S1407, .i32⟩) (.of main_call19_v0 : TRef sig ⟨S1407x1, .i32⟩) (broadcastInDim S1407x1 ![0] bcast_S1407_S1407x1_0)
  :: TRef.binary (.of main_v142 : TRef sig ⟨S8x64x64x1404, .f32⟩) (.of main_call19_v0 : TRef sig ⟨S1407x1, .i32⟩) (.of main_v143 : TRef sig ⟨S8x64x64x1407, .f32⟩) (fun x i => Host.gather gather_S8x64x64x1404_S1407x1_S8x64x64x1407_012_3_n_n_3_1_864641 x i)
  :: [] )
/-- What they write. -/
abbrev wr5 : List (Ref sig .tc) := [main_v132, main_c_13, main_v133, main_v134, main_c_14, main_v135, main_v136, main_v137, main_c_15, main_v138, main_v139, main_c_16, main_v140, main_v141, main_call18_v0, main_v142, main_call19_v0, main_v143]
theorem wr5_spec : (ops5 : List (HloOp τ sig (Elt F))).Forall fun op => op.writes ⊆ (wr5.map (Proc.devRef (τ := τ) .tc)).toFinset :=
  forall_writes_sub_of_map rfl
theorem sub5 : (ops5 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., unary_bufs_sub .., binary_bufs_sub .., unary_bufs_sub .., binary_bufs_sub ..⟩
theorem fresh5 : ∀ op ∈ (ops5 : List (HloOp τ sig (Elt F))), op.fresh = ∅ := by
  intro _ h; (repeat (cases h with | head => rfl | tail _ h => ?_)); exact nomatch h

/-- The operations of the last convolution. -/
abbrev ops6 : List (HloOp τ sig (Elt F)) :=
  ( nullary main_c_17 (constantI S_ 32 0#32)
  :: TRef.unary (.of main_c_17 : TRef sig ⟨S_, .i32⟩) (.of main_call20_v0 : TRef sig ⟨S_, .f32⟩) (sitofp .f32)
  :: TRef.binary (.of main_v143 : TRef sig ⟨S8x64x64x1407, .f32⟩) (.of main_call20_v0 : TRef sig ⟨S_, .f32⟩) (.of main_v144 : TRef sig ⟨S8x64x66x1409, .f32⟩) (fun x v => pad S8x64x66x1409 ![0, 0, 1, 1] ![0, 0, 1, 1] ![0, 0, 0, 0] x v pads_S8x64x64x1407_S8x64x66x1409_000_000_110_110 h_S_)
  :: nullary main_v145 (iotaInDim S64 32 0)
  :: unary main_v145 main_v146 (broadcastInDim S64x1 ![0] bcast_S64_S64x1_0 : (⟨S64, .i32⟩ : BufTy).Contents (Elt F) → (⟨S64x1, .i32⟩ : BufTy).Contents (Elt F))
  :: nullary main_c_18 (constantI S_ 32 1#32)
  :: unary main_c_18 main_v147 (broadcastInDim S64x1 ![] bcast_S_S64x1 : (⟨S_, .i32⟩ : BufTy).Contents (Elt F) → (⟨S64x1, .i32⟩ : BufTy).Contents (Elt F))
  :: binary main_v147 main_v146 main_v148 (muli : (⟨S64x1, .i32⟩ : BufTy).Contents (Elt F) → (⟨S64x1, .i32⟩ : BufTy).Contents (Elt F) → (⟨S64x1, .i32⟩ : BufTy).Contents (Elt F))
  :: nullary main_v149 (iotaInDim S3 32 0)
  :: unary main_v149 main_v150 (broadcastInDim S1x3 ![1] bcast_S3_S1x3_1 : (⟨S3, .i32⟩ : BufTy).Contents (Elt F) → (⟨S1x3, .i32⟩ : BufTy).Contents (Elt F))
  :: unary main_v148 main_v151 (broadcastInDim S64x3 ![0, 1] bcast_S64x1_S64x3_0_1 : (⟨S64x1, .i32⟩ : BufTy).Contents (Elt F) → (⟨S64x3, .i32⟩ : BufTy).Contents (Elt F))
  :: unary main_v150 main_v152 (broadcastInDim S64x3 ![0, 1] bcast_S1x3_S64x3_0_1 : (⟨S1x3, .i32⟩ : BufTy).Contents (Elt F) → (⟨S64x3, .i32⟩ : BufTy).Contents (Elt F))
  :: binary main_v151 main_v152 main_v153 (addi : (⟨S64x3, .i32⟩ : BufTy).Contents (Elt F) → (⟨S64x3, .i32⟩ : BufTy).Contents (Elt F) → (⟨S64x3, .i32⟩ : BufTy).Contents (Elt F))
  :: nullary main_v154 (iotaInDim S1407 32 0)
  :: unary main_v154 main_v155 (broadcastInDim S1407x1 ![0] bcast_S1407_S1407x1_0 : (⟨S1407, .i32⟩ : BufTy).Contents (Elt F) → (⟨S1407x1, .i32⟩ : BufTy).Contents (Elt F))
  :: nullary main_c_19 (constantI S_ 32 1#32)
  :: unary main_c_19 main_v156 (broadcastInDim S1407x1 ![] bcast_S_S1407x1 : (⟨S_, .i32⟩ : BufTy).Contents (Elt F) → (⟨S1407x1, .i32⟩ : BufTy).Contents (Elt F))
  :: binary main_v156 main_v155 main_v157 (muli : (⟨S1407x1, .i32⟩ : BufTy).Contents (Elt F) → (⟨S1407x1, .i32⟩ : BufTy).Contents (Elt F) → (⟨S1407x1, .i32⟩ : BufTy).Contents (Elt F))
  :: nullary main_v158 (iotaInDim S3 32 0)
  :: unary main_v158 main_v159 (broadcastInDim S1x3 ![1] bcast_S3_S1x3_1 : (⟨S3, .i32⟩ : BufTy).Contents (Elt F) → (⟨S1x3, .i32⟩ : BufTy).Contents (Elt F))
  :: unary main_v157 main_v160 (broadcastInDim S1407x3 ![0, 1] bcast_S1407x1_S1407x3_0_1 : (⟨S1407x1, .i32⟩ : BufTy).Contents (Elt F) → (⟨S1407x3, .i32⟩ : BufTy).Contents (Elt F))
  :: unary main_v159 main_v161 (broadcastInDim S1407x3 ![0, 1] bcast_S1x3_S1407x3_0_1 : (⟨S1x3, .i32⟩ : BufTy).Contents (Elt F) → (⟨S1407x3, .i32⟩ : BufTy).Contents (Elt F))
  :: binary main_v160 main_v161 main_v162 (addi : (⟨S1407x3, .i32⟩ : BufTy).Contents (Elt F) → (⟨S1407x3, .i32⟩ : BufTy).Contents (Elt F) → (⟨S1407x3, .i32⟩ : BufTy).Contents (Elt F))
  :: TRef.unary (.of main_v153 : TRef sig ⟨S64x3, .i32⟩) (.of main_call21_v0 : TRef sig ⟨S64x3x1, .i32⟩) (broadcastInDim S64x3x1 ![0, 1] bcast_S64x3_S64x3x1_0_1)
  :: TRef.binary (.of main_v144 : TRef sig ⟨S8x64x66x1409, .f32⟩) (.of main_call21_v0 : TRef sig ⟨S64x3x1, .i32⟩) (.of main_v163 : TRef sig ⟨S8x64x64x3x1409, .f32⟩) (fun x i => Host.gather gather_S8x64x66x1409_S64x3x1_S8x64x64x3x1409_014_2_n_n_2_2_86411409 x i)
  :: TRef.unary (.of main_v162 : TRef sig ⟨S1407x3, .i32⟩) (.of main_call22_v0 : TRef sig ⟨S1407x3x1, .i32⟩) (broadcastInDim S1407x3x1 ![0, 1] bcast_S1407x3_S1407x3x1_0_1)
  :: TRef.binary (.of main_v163 : TRef sig ⟨S8x64x64x3x1409, .f32⟩) (.of main_call22_v0 : TRef sig ⟨S1407x3x1, .i32⟩) (.of main_v164 : TRef sig ⟨S8x64x64x3x1407x3, .f32⟩) (fun x i => Host.gather gather_S8x64x64x3x1409_S1407x3x1_S8x64x64x3x1407x3_0123_4_n_n_4_2_8646431 x i)
  :: binary main_arg10 main_v164 main_v165 ((fun l r => Host.dotGeneral dot_S1x64x3x3_S8x64x64x3x1407x3_S1x8x64x1407_123_135_0_024_n_n none l r) : (⟨S1x64x3x3, .f32⟩ : BufTy).Contents (Elt F) → (⟨S8x64x64x3x1407x3, .f32⟩ : BufTy).Contents (Elt F) → (⟨S1x8x64x1407, .f32⟩ : BufTy).Contents (Elt F))
  :: unary main_v165 main_v166 ((transpose S8x1x64x1407 [1, 0, 2, 3] · transposes_S1x8x64x1407_S8x1x64x1407_1_0_2_3) : (⟨S1x8x64x1407, .f32⟩ : BufTy).Contents (Elt F) → (⟨S8x1x64x1407, .f32⟩ : BufTy).Contents (Elt F))
  :: unary main_arg11 main_v167 (broadcastInDim S1x1x1x1 ![1] bcast_S1_S1x1x1x1_1 : (⟨S1, .f32⟩ : BufTy).Contents (Elt F) → (⟨S1x1x1x1, .f32⟩ : BufTy).Contents (Elt F))
  :: unary main_v167 main_v168 (broadcastInDim S8x1x64x1407 ![0, 1, 2, 3] bcast_S1x1x1x1_S8x1x64x1407_0_1_2_3 : (⟨S1x1x1x1, .f32⟩ : BufTy).Contents (Elt F) → (⟨S8x1x64x1407, .f32⟩ : BufTy).Contents (Elt F))
  :: binary main_v166 main_v168 main_v169 (addf : (⟨S8x1x64x1407, .f32⟩ : BufTy).Contents (Elt F) → (⟨S8x1x64x1407, .f32⟩ : BufTy).Contents (Elt F) → (⟨S8x1x64x1407, .f32⟩ : BufTy).Contents (Elt F))
  :: TRef.nullary (.of main_call23_cst : TRef sig ⟨S_, .f32⟩) (constant S_ .f32 0x00000000#32)
  :: TRef.unary (.of main_call23_cst : TRef sig ⟨S_, .f32⟩) (.of main_call23_v0 : TRef sig ⟨S8x1x64x1407, .f32⟩) (broadcastInDim S8x1x64x1407 ![] bcast_S_S8x1x64x1407)
  :: TRef.binary (.of main_v169 : TRef sig ⟨S8x1x64x1407, .f32⟩) (.of main_call23_v0 : TRef sig ⟨S8x1x64x1407, .f32⟩) (.of main_v170 : TRef sig ⟨S8x1x64x1407, .f32⟩) maximumf
  :: unary main_v170 main_v171 (Host.tanh : (⟨S8x1x64x1407, .f32⟩ : BufTy).Contents (Elt F) → (⟨S8x1x64x1407, .f32⟩ : BufTy).Contents (Elt F))
  :: [] )
/-- What they write. -/
abbrev wr6 : List (Ref sig .tc) := [main_c_17, main_call20_v0, main_v144, main_v145, main_v146, main_c_18, main_v147, main_v148, main_v149, main_v150, main_v151, main_v152, main_v153, main_v154, main_v155, main_c_19, main_v156, main_v157, main_v158, main_v159, main_v160, main_v161, main_v162, main_call21_v0, main_v163, main_call22_v0, main_v164, main_v165, main_v166, main_v167, main_v168, main_v169, main_call23_cst, main_call23_v0, main_v170, main_v171]
theorem wr6_spec : (ops6 : List (HloOp τ sig (Elt F))).Forall fun op => op.writes ⊆ (wr6.map (Proc.devRef (τ := τ) .tc)).toFinset :=
  forall_writes_sub_of_map rfl
theorem sub6 : (ops6 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub ..⟩
theorem fresh6 : ∀ op ∈ (ops6 : List (HloOp τ sig (Elt F))), op.fresh = ∅ := by
  intro _ h; (repeat (cases h with | head => rfl | tail _ h => ?_)); exact nomatch h

/-- The operations of the three rounds. -/
abbrev ops7 : List (HloOp τ sig (Elt F)) :=
  ( nullary main_cst_20 (constant S_ .f32 0x00000000#32)
  :: unary main_cst_20 main_v172 (broadcastInDim S8x1x64x1407 ![] bcast_S_S8x1x64x1407 : (⟨S_, .f32⟩ : BufTy).Contents (Elt F) → (⟨S8x1x64x1407, .f32⟩ : BufTy).Contents (Elt F))
  :: binary main_v171 main_arg0 main_v173 (subf : (⟨S8x1x64x1407, .f32⟩ : BufTy).Contents (Elt F) → (⟨S8x1x64x1407, .f32⟩ : BufTy).Contents (Elt F) → (⟨S8x1x64x1407, .f32⟩ : BufTy).Contents (Elt F))
  :: binary main_v173 main_v173 main_v174 (mulf : (⟨S8x1x64x1407, .f32⟩ : BufTy).Contents (Elt F) → (⟨S8x1x64x1407, .f32⟩ : BufTy).Contents (Elt F) → (⟨S8x1x64x1407, .f32⟩ : BufTy).Contents (Elt F))
  :: nullary main_cst_21 (constant S_ .f32 0x00000000#32)
  :: binary main_v174 main_cst_21 main_v175 ((fun x v => Host.reduceAdd x v reducesTo_S8x1x64x1407_S_d0_1_2_3 h_S_) : (⟨S8x1x64x1407, .f32⟩ : BufTy).Contents (Elt F) → (⟨S_, .f32⟩ : BufTy).Contents (Elt F) → (⟨S_, .f32⟩ : BufTy).Contents (Elt F))
  :: nullary main_cst_22 (constant S_ .f32 0x492FE000#32)
  :: binary main_v175 main_cst_22 main_v176 (Host.divf : (⟨S_, .f32⟩ : BufTy).Contents (Elt F) → (⟨S_, .f32⟩ : BufTy).Contents (Elt F) → (⟨S_, .f32⟩ : BufTy).Contents (Elt F))
  :: nullary main_cst_23 (constant S_ .f32 0x7F800000#32)
  :: binary main_v176 main_cst_23 main_v177 (cmpf .olt : (⟨S_, .f32⟩ : BufTy).Contents (Elt F) → (⟨S_, .f32⟩ : BufTy).Contents (Elt F) → (⟨S_, .i1⟩ : BufTy).Contents (Elt F))
  :: TRef.ternary (.of main_v177 : TRef sig ⟨S_, .i1⟩) (.of main_v171 : TRef sig ⟨S8x1x64x1407, .f32⟩) (.of main_v172 : TRef sig ⟨S8x1x64x1407, .f32⟩) (.of main_v178 : TRef sig ⟨S8x1x64x1407, .f32⟩) (fun p a b => select (broadcastInDim S8x1x64x1407 ![] bcast_S_S8x1x64x1407 p) a b)
  :: nullary main_cst_24 (constant S_ .f32 0x7F800000#32)
  :: TRef.ternary (.of main_v177 : TRef sig ⟨S_, .i1⟩) (.of main_v176 : TRef sig ⟨S_, .f32⟩) (.of main_cst_24 : TRef sig ⟨S_, .f32⟩) (.of main_v179 : TRef sig ⟨S_, .f32⟩) select
  :: binary main_v171 main_arg0 main_v180 (subf : (⟨S8x1x64x1407, .f32⟩ : BufTy).Contents (Elt F) → (⟨S8x1x64x1407, .f32⟩ : BufTy).Contents (Elt F) → (⟨S8x1x64x1407, .f32⟩ : BufTy).Contents (Elt F))
  :: binary main_v180 main_v180 main_v181 (mulf : (⟨S8x1x64x1407, .f32⟩ : BufTy).Contents (Elt F) → (⟨S8x1x64x1407, .f32⟩ : BufTy).Contents (Elt F) → (⟨S8x1x64x1407, .f32⟩ : BufTy).Contents (Elt F))
  :: nullary main_cst_25 (constant S_ .f32 0x00000000#32)
  :: binary main_v181 main_cst_25 main_v182 ((fun x v => Host.reduceAdd x v reducesTo_S8x1x64x1407_S_d0_1_2_3 h_S_) : (⟨S8x1x64x1407, .f32⟩ : BufTy).Contents (Elt F) → (⟨S_, .f32⟩ : BufTy).Contents (Elt F) → (⟨S_, .f32⟩ : BufTy).Contents (Elt F))
  :: nullary main_cst_26 (constant S_ .f32 0x492FE000#32)
  :: binary main_v182 main_cst_26 main_v183 (Host.divf : (⟨S_, .f32⟩ : BufTy).Contents (Elt F) → (⟨S_, .f32⟩ : BufTy).Contents (Elt F) → (⟨S_, .f32⟩ : BufTy).Contents (Elt F))
  :: binary main_v183 main_v179 main_v184 (cmpf .olt : (⟨S_, .f32⟩ : BufTy).Contents (Elt F) → (⟨S_, .f32⟩ : BufTy).Contents (Elt F) → (⟨S_, .i1⟩ : BufTy).Contents (Elt F))
  :: TRef.ternary (.of main_v184 : TRef sig ⟨S_, .i1⟩) (.of main_v171 : TRef sig ⟨S8x1x64x1407, .f32⟩) (.of main_v178 : TRef sig ⟨S8x1x64x1407, .f32⟩) (.of main_v185 : TRef sig ⟨S8x1x64x1407, .f32⟩) (fun p a b => select (broadcastInDim S8x1x64x1407 ![] bcast_S_S8x1x64x1407 p) a b)
  :: TRef.ternary (.of main_v184 : TRef sig ⟨S_, .i1⟩) (.of main_v183 : TRef sig ⟨S_, .f32⟩) (.of main_v179 : TRef sig ⟨S_, .f32⟩) (.of main_v186 : TRef sig ⟨S_, .f32⟩) select
  :: binary main_v171 main_arg0 main_v187 (subf : (⟨S8x1x64x1407, .f32⟩ : BufTy).Contents (Elt F) → (⟨S8x1x64x1407, .f32⟩ : BufTy).Contents (Elt F) → (⟨S8x1x64x1407, .f32⟩ : BufTy).Contents (Elt F))
  :: binary main_v187 main_v187 main_v188 (mulf : (⟨S8x1x64x1407, .f32⟩ : BufTy).Contents (Elt F) → (⟨S8x1x64x1407, .f32⟩ : BufTy).Contents (Elt F) → (⟨S8x1x64x1407, .f32⟩ : BufTy).Contents (Elt F))
  :: nullary main_cst_27 (constant S_ .f32 0x00000000#32)
  :: binary main_v188 main_cst_27 main_v189 ((fun x v => Host.reduceAdd x v reducesTo_S8x1x64x1407_S_d0_1_2_3 h_S_) : (⟨S8x1x64x1407, .f32⟩ : BufTy).Contents (Elt F) → (⟨S_, .f32⟩ : BufTy).Contents (Elt F) → (⟨S_, .f32⟩ : BufTy).Contents (Elt F))
  :: nullary main_cst_28 (constant S_ .f32 0x492FE000#32)
  :: binary main_v189 main_cst_28 main_v190 (Host.divf : (⟨S_, .f32⟩ : BufTy).Contents (Elt F) → (⟨S_, .f32⟩ : BufTy).Contents (Elt F) → (⟨S_, .f32⟩ : BufTy).Contents (Elt F))
  :: binary main_v190 main_v186 main_v191 (cmpf .olt : (⟨S_, .f32⟩ : BufTy).Contents (Elt F) → (⟨S_, .f32⟩ : BufTy).Contents (Elt F) → (⟨S_, .i1⟩ : BufTy).Contents (Elt F))
  :: TRef.ternary (.of main_v191 : TRef sig ⟨S_, .i1⟩) (.of main_v171 : TRef sig ⟨S8x1x64x1407, .f32⟩) (.of main_v185 : TRef sig ⟨S8x1x64x1407, .f32⟩) (.of main_v192 : TRef sig ⟨S8x1x64x1407, .f32⟩) (fun p a b => select (broadcastInDim S8x1x64x1407 ![] bcast_S_S8x1x64x1407 p) a b)
  :: TRef.ternary (.of main_v191 : TRef sig ⟨S_, .i1⟩) (.of main_v190 : TRef sig ⟨S_, .f32⟩) (.of main_v186 : TRef sig ⟨S_, .f32⟩) (.of main_v193 : TRef sig ⟨S_, .f32⟩) select
  :: [] )
/-- What they write. -/
abbrev wr7 : List (Ref sig .tc) := [main_cst_20, main_v172, main_v173, main_v174, main_cst_21, main_v175, main_cst_22, main_v176, main_cst_23, main_v177, main_v178, main_cst_24, main_v179, main_v180, main_v181, main_cst_25, main_v182, main_cst_26, main_v183, main_v184, main_v185, main_v186, main_v187, main_v188, main_cst_27, main_v189, main_cst_28, main_v190, main_v191, main_v192, main_v193]
theorem wr7_spec : (ops7 : List (HloOp τ sig (Elt F))).Forall fun op => op.writes ⊆ (wr7.map (Proc.devRef (τ := τ) .tc)).toFinset :=
  forall_writes_sub_of_map rfl
theorem sub7 : (ops7 : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., binary_bufs_sub .., nullary_bufs_sub .., binary_bufs_sub .., ternary_bufs_sub .., nullary_bufs_sub .., ternary_bufs_sub .., binary_bufs_sub .., binary_bufs_sub .., nullary_bufs_sub .., binary_bufs_sub .., nullary_bufs_sub .., binary_bufs_sub .., binary_bufs_sub .., ternary_bufs_sub .., ternary_bufs_sub .., binary_bufs_sub .., binary_bufs_sub .., nullary_bufs_sub .., binary_bufs_sub .., nullary_bufs_sub .., binary_bufs_sub .., binary_bufs_sub .., ternary_bufs_sub .., ternary_bufs_sub ..⟩
theorem fresh7 : ∀ op ∈ (ops7 : List (HloOp τ sig (Elt F))), op.fresh = ∅ := by
  intro _ h; (repeat (cases h with | head => rfl | tail _ h => ?_)); exact nomatch h

/-- All the operations of the reference, in order. -/
abbrev ops : List (HloOp τ sig (Elt F)) :=
  ops0 ++ (ops1 ++ (ops2 ++ (ops3 ++ (ops4 ++ (ops5 ++ (ops6 ++ (ops7)))))))

/-- The reference is that straight line. -/
theorem main_eq (c : Dev nD) : main (F := F) c = seq ops := rfl

/-- Nothing is scoped on this signature. -/
theorem scopedRefs_eq : (Finset.univ.filter fun b : Ref sig .tc => b.isScoped) = ∅ := by decide +kernel
theorem scopedSems_eq : (Finset.univ.filter fun sm : SemLoc sig => sm.isScoped .tc) = ∅ := by decide +kernel

theorem forall_append {α : Type} {p : α → Prop} {a b : List α} (ha : a.Forall p) (hb : b.Forall p) : (a ++ b).Forall p := by
  rw [List.forall_iff_forall_mem] at *
  intro x hx
  exact (List.mem_append.mp hx).elim (ha x) (hb x)

theorem mem_append_imp {α : Type} {p : α → Prop} {a b : List α} (ha : ∀ x ∈ a, p x) (hb : ∀ x ∈ b, p x) : ∀ x ∈ a ++ b, p x :=
  fun x hx => (List.mem_append.mp hx).elim (ha x) (hb x)

theorem after_append (a b : List (HloOp τ sig (Elt F))) (V : Valuation τ sig (Elt F)) : after (a ++ b) V = after b (after a V) := by
  induction a generalizing V with
  | nil => rfl
  | cons op a ih => exact ih _

/-- Every operation touches TensorCore references only. -/
theorem ops_sub : (ops : List (HloOp τ sig (Elt F))).Forall fun op => op.bufs ⊆ tcRefs τ sig :=
  forall_append sub0 (forall_append sub1 (forall_append sub2 (forall_append sub3 (forall_append sub4 (forall_append sub5 (forall_append sub6 (sub7)))))))

theorem ops_fresh : ∀ op ∈ (ops : List (HloOp τ sig (Elt F))), op.fresh = ∅ :=
  mem_append_imp fresh0 (mem_append_imp fresh1 (mem_append_imp fresh2 (mem_append_imp fresh3 (mem_append_imp fresh4 (mem_append_imp fresh5 (mem_append_imp fresh6 (fresh7)))))))

variable (m : (ℓ : Loc nD τ sig) → Buf (Elt F) ℓ)

/-- The contents at launch, and after each stage. -/
abbrev R0 (c : Dev nD) : Valuation τ sig (Elt F) := launchContents m c
def R1 (c : Dev nD) : Valuation τ sig (Elt F) := after ops0 (R0 m c)
def R2 (c : Dev nD) : Valuation τ sig (Elt F) := after ops1 (R1 m c)
def R3 (c : Dev nD) : Valuation τ sig (Elt F) := after ops2 (R2 m c)
def R4 (c : Dev nD) : Valuation τ sig (Elt F) := after ops3 (R3 m c)
def R5 (c : Dev nD) : Valuation τ sig (Elt F) := after ops4 (R4 m c)
def R6 (c : Dev nD) : Valuation τ sig (Elt F) := after ops5 (R5 m c)
def R7 (c : Dev nD) : Valuation τ sig (Elt F) := after ops6 (R6 m c)
def R8 (c : Dev nD) : Valuation τ sig (Elt F) := after ops7 (R7 m c)

theorem R1_of (c : Dev nD) (r : Ref sig .tc) (h : r ∉ wr0) : R1 m c (Proc.devRef .tc r) = R0 m c (Proc.devRef .tc r) :=
  after_of_writes_sub ops0 _ wr0_spec h
theorem R2_of (c : Dev nD) (r : Ref sig .tc) (h : r ∉ wr1) : R2 m c (Proc.devRef .tc r) = R1 m c (Proc.devRef .tc r) :=
  after_of_writes_sub ops1 _ wr1_spec h
theorem R3_of (c : Dev nD) (r : Ref sig .tc) (h : r ∉ wr2) : R3 m c (Proc.devRef .tc r) = R2 m c (Proc.devRef .tc r) :=
  after_of_writes_sub ops2 _ wr2_spec h
theorem R4_of (c : Dev nD) (r : Ref sig .tc) (h : r ∉ wr3) : R4 m c (Proc.devRef .tc r) = R3 m c (Proc.devRef .tc r) :=
  after_of_writes_sub ops3 _ wr3_spec h
theorem R5_of (c : Dev nD) (r : Ref sig .tc) (h : r ∉ wr4) : R5 m c (Proc.devRef .tc r) = R4 m c (Proc.devRef .tc r) :=
  after_of_writes_sub ops4 _ wr4_spec h
theorem R6_of (c : Dev nD) (r : Ref sig .tc) (h : r ∉ wr5) : R6 m c (Proc.devRef .tc r) = R5 m c (Proc.devRef .tc r) :=
  after_of_writes_sub ops5 _ wr5_spec h
theorem R7_of (c : Dev nD) (r : Ref sig .tc) (h : r ∉ wr6) : R7 m c (Proc.devRef .tc r) = R6 m c (Proc.devRef .tc r) :=
  after_of_writes_sub ops6 _ wr6_spec h
theorem R8_of (c : Dev nD) (r : Ref sig .tc) (h : r ∉ wr7) : R8 m c (Proc.devRef .tc r) = R7 m c (Proc.devRef .tc r) :=
  after_of_writes_sub ops7 _ wr7_spec h

theorem after_ops (c : Dev nD) : after ops (launchContents m c) = R8 m c := by
  simp only [ops, after_append]
  rfl

/-- The run: every buffer of the device ends at `R8`. -/
theorem run_main (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R8 m c (Proc.devRef .tc b) :=
  (θ_run defs _ _).mono (fun _ h c b => (h c b).trans (congrFun (after_ops m c) _))
    (run_seq scopedRefs_eq scopedSems_eq defs main (fun _ => ops) main_eq (fun _ => ops_sub) m ρ (fun _ => ops_fresh))

/-- The arguments. -/
abbrev argList : List (Ref sig .tc) := [main_arg0, main_arg1, main_arg2, main_arg3, main_arg4, main_arg5, main_arg6, main_arg7, main_arg8, main_arg9, main_arg10, main_arg11]
theorem args_unwritten : ∀ a ∈ argList, a ∉ wr0 ∧ a ∉ wr1 ∧ a ∉ wr2 ∧ a ∉ wr3 ∧ a ∉ wr4 ∧ a ∉ wr5 ∧ a ∉ wr6 ∧ a ∉ wr7 := by decide +kernel

/-- Every argument keeps its launch contents through each stage. -/
theorem R8_args (c : Dev nD) : ∀ a ∈ argList, R1 m c (Proc.devRef .tc a) = m ((c.tc : Thread nD τ).loc a) ∧ R2 m c (Proc.devRef .tc a) = m ((c.tc : Thread nD τ).loc a) ∧ R3 m c (Proc.devRef .tc a) = m ((c.tc : Thread nD τ).loc a) ∧ R4 m c (Proc.devRef .tc a) = m ((c.tc : Thread nD τ).loc a) ∧ R5 m c (Proc.devRef .tc a) = m ((c.tc : Thread nD τ).loc a) ∧ R6 m c (Proc.devRef .tc a) = m ((c.tc : Thread nD τ).loc a) ∧ R7 m c (Proc.devRef .tc a) = m ((c.tc : Thread nD τ).loc a) ∧ R8 m c (Proc.devRef .tc a) = m ((c.tc : Thread nD τ).loc a) := by
  intro a ha
  obtain ⟨h0, h1, h2, h3, h4, h5, h6, h7⟩ := args_unwritten a ha
  have e1 : R1 m c (Proc.devRef .tc a) = m ((c.tc : Thread nD τ).loc a) := (R1_of m c a h0).trans rfl
  have e2 : R2 m c (Proc.devRef .tc a) = m ((c.tc : Thread nD τ).loc a) := (R2_of m c a h1).trans e1
  have e3 : R3 m c (Proc.devRef .tc a) = m ((c.tc : Thread nD τ).loc a) := (R3_of m c a h2).trans e2
  have e4 : R4 m c (Proc.devRef .tc a) = m ((c.tc : Thread nD τ).loc a) := (R4_of m c a h3).trans e3
  have e5 : R5 m c (Proc.devRef .tc a) = m ((c.tc : Thread nD τ).loc a) := (R5_of m c a h4).trans e4
  have e6 : R6 m c (Proc.devRef .tc a) = m ((c.tc : Thread nD τ).loc a) := (R6_of m c a h5).trans e5
  have e7 : R7 m c (Proc.devRef .tc a) = m ((c.tc : Thread nD τ).loc a) := (R7_of m c a h6).trans e6
  have e8 : R8 m c (Proc.devRef .tc a) = m ((c.tc : Thread nD τ).loc a) := (R8_of m c a h7).trans e7
  exact ⟨e1, e2, e3, e4, e5, e6, e7, e8⟩

end Cert.Proof.Ref

end
-- ==== Proof.RefRun.lean ====
/-
  The frame of the reference, and its run read at the result.
-/
module

public import proofs.«01_k».proof.Proof.RefOps
public import proofs.«01_k».proof.Defs
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F] (m : (ℓ : Loc nD τ sig) → Buf (Elt F) ℓ) (ρ : Dev nD → PrngReg)

/-- An argument at the end of the run. -/
theorem arg_end (c : Dev nD) (a : Ref sig .tc) (ha : a ∈ argList) :
    R8 m c (Proc.devRef .tc a) = m ((c.tc : Thread nD τ).loc a) := (R8_args m c a ha).2.2.2.2.2.2.2

/-- The run: the result's buffer ends at `R8`, and the arguments end as launched. -/
theorem run_value :
    θ_run defs (onTc (τ := τ) (main (F := F))) ⟨m, fun _ => 0, ρ⟩ fun r => ∀ c : Dev nD,
      r.2.mem ((c.tc : Thread nD τ).loc main_v192) = R8 m c (Proc.devRef .tc main_v192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    have e (a : Ref sig .tc) (ha : a ∈ argList) : r.2.mem ((c.tc : Thread nD τ).loc a) = m ((c.tc : Thread nD τ).loc a) :=
      (h c a).trans (arg_end m c a ha)
    ⟨h c main_v192, e main_arg0 (by decide), e main_arg1 (by decide), e main_arg2 (by decide), e main_arg3 (by decide), e main_arg4 (by decide), e main_arg5 (by decide), e main_arg6 (by decide), e main_arg7 (by decide), e main_arg8 (by decide), e main_arg9 (by decide), e main_arg10 (by decide), e main_arg11 (by decide)⟩)
    (run_main m ρ)

/-- The frame: the arguments end as launched, and there is no semaphore. -/
theorem frame : Cert.quiescent_ReferenceIdeal := by
  intro m ρ _
  exact (θ_run Cert.ReferenceIdeal.defs _ _).mono (fun r h => ⟨fun c => (h c).2, sem_eq_zero_of_no_sems (by decide) r.2⟩)
    (run_value (F := Ideal) m ρ)

end Cert.Proof.Ref

end
-- ==== Proof.Spec.lean ====
/-
  The mathematics both programs compute, on arrays read at natural numbers: readers of arrays (zero outside), padding,
  dilation, the convolution at a point, and the nearest codebook row.
-/
module

public import Idealize.ShloMosaic.PureOps.Ideal.Laws
public import Idealize.ShloMosaic.Lib.Pointwise.Index

@[expose] public section

noncomputable section

open scoped BigOperators

namespace Cert.Proof

open Idealize.ShloMosaic

/-! ## Arrays read at natural coordinates -/

/-- A vector read at a natural coordinate, zero outside. -/
def rd1 {a : ℕ} (A : (⟨1, ![a]⟩ : Shape).Idx → EReal) (i : ℕ) : EReal :=
  if h : i < a then A (ix1 ⟨i, h⟩) else 0

/-- A matrix read at natural coordinates, zero outside. -/
def rd2 {a b : ℕ} (A : (⟨2, ![a, b]⟩ : Shape).Idx → EReal) (i j : ℕ) : EReal :=
  if h : i < a ∧ j < b then A (ix2 ⟨i, h.1⟩ ⟨j, h.2⟩) else 0

/-- A rank-3 array read at natural coordinates, zero outside. -/
def rd3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

/-- A rank-4 array read at natural coordinates, zero outside. -/
def rd4 {a b c d : ℕ} (A : (⟨4, ![a, b, c, d]⟩ : Shape).Idx → EReal) (i j k l : ℕ) : EReal :=
  if h : i < a ∧ j < b ∧ k < c ∧ l < d then A (ix4 ⟨i, h.1⟩ ⟨j, h.2.1⟩ ⟨k, h.2.2.1⟩ ⟨l, h.2.2.2⟩) else 0

/-- A rank-5 array read at natural coordinates, zero outside. -/
def rd5 {a b c d e : ℕ} (A : (⟨5, ![a, b, c, d, e]⟩ : Shape).Idx → EReal) (i j k l m : ℕ) : EReal :=
  if h : i < a ∧ j < b ∧ k < c ∧ l < d ∧ m < e then
    A (ix5 ⟨i, h.1⟩ ⟨j, h.2.1⟩ ⟨k, h.2.2.1⟩ ⟨l, h.2.2.2.1⟩ ⟨m, h.2.2.2.2⟩) else 0

/-- A rank-6 array read at natural coordinates, zero outside. -/
def rd6 {a b c d e f : ℕ} (A : (⟨6, ![a, b, c, d, e, f]⟩ : Shape).Idx → EReal) (i j k l m n : ℕ) : EReal :=
  if h : i < a ∧ j < b ∧ k < c ∧ l < d ∧ m < e ∧ n < f then
    A (ix6 ⟨i, h.1⟩ ⟨j, h.2.1⟩ ⟨k, h.2.2.1⟩ ⟨l, h.2.2.2.1⟩ ⟨m, h.2.2.2.2.1⟩ ⟨n, h.2.2.2.2.2⟩) else 0

theorem at1 {a : ℕ} (A : (⟨1, ![a]⟩ : Shape).Idx → EReal) (i : Fin a) : A (ix1 i) = rd1 A i := by
  rw [rd1, dif_pos i.isLt]

theorem at2 {a b : ℕ} (A : (⟨2, ![a, b]⟩ : Shape).Idx → EReal) (i : Fin a) (j : Fin b) : A (ix2 i j) = rd2 A i j := by
  rw [rd2, dif_pos ⟨i.isLt, j.isLt⟩]

theorem at3 {a b c : ℕ} (A : (⟨3, ![a, b, c]⟩ : Shape).Idx → EReal) (i : Fin a) (j : Fin b) (k : Fin c) :
    A (ix3 i j k) = rd3 A i j k := by
  rw [rd3, dif_pos ⟨i.isLt, j.isLt, k.isLt⟩]

theorem at4 {a b c d : ℕ} (A : (⟨4, ![a, b, c, d]⟩ : Shape).Idx → EReal) (i : Fin a) (j : Fin b) (k : Fin c) (l : Fin d) :
    A (ix4 i j k l) = rd4 A i j k l := by
  rw [rd4, dif_pos ⟨i.isLt, j.isLt, k.isLt, l.isLt⟩]

theorem at5 {a b c d e : ℕ} (A : (⟨5, ![a, b, c, d, e]⟩ : Shape).Idx → EReal) (i : Fin a) (j : Fin b) (k : Fin c) (l : Fin d)
    (m : Fin e) : A (ix5 i j k l m) = rd5 A i j k l m := by
  rw [rd5, dif_pos ⟨i.isLt, j.isLt, k.isLt, l.isLt, m.isLt⟩]

theorem at6 {a b c d e f : ℕ} (A : (⟨6, ![a, b, c, d, e, f]⟩ : Shape).Idx → EReal) (i : Fin a) (j : Fin b) (k : Fin c)
    (l : Fin d) (m : Fin e) (n : Fin f) : A (ix6 i j k l m n) = rd6 A i j k l m n := by
  rw [rd6, dif_pos ⟨i.isLt, j.isLt, k.isLt, l.isLt, m.isLt, n.isLt⟩]

theorem rd1_of {a : ℕ} (A : (⟨1, ![a]⟩ : Shape).Idx → EReal) {i : ℕ} (h : i < a) : rd1 A i = A (ix1 ⟨i, h⟩) := dif_pos h
theorem rd2_of {a b : ℕ} (A : (⟨2, ![a, b]⟩ : Shape).Idx → EReal) {i j : ℕ} (h : i < a) (h' : j < b) :
    rd2 A i j = A (ix2 ⟨i, h⟩ ⟨j, h'⟩) := dif_pos ⟨h, h'⟩
theorem rd3_of {a b c : ℕ} (A : (⟨3, ![a, b, c]⟩ : Shape).Idx → EReal) {i j k : ℕ} (h : i < a) (h' : j < b) (h'' : k < c) :
    rd3 A i j k = A (ix3 ⟨i, h⟩ ⟨j, h'⟩ ⟨k, h''⟩) := dif_pos ⟨h, h', h''⟩
theorem rd4_of {a b c d : ℕ} (A : (⟨4, ![a, b, c, d]⟩ : Shape).Idx → EReal) {i j k l : ℕ} (h : i < a) (h' : j < b) (h'' : k < c)
    (h3 : l < d) : rd4 A i j k l = A (ix4 ⟨i, h⟩ ⟨j, h'⟩ ⟨k, h''⟩ ⟨l, h3⟩) := dif_pos ⟨h, h', h'', h3⟩
theorem rd5_of {a b c d e : ℕ} (A : (⟨5, ![a, b, c, d, e]⟩ : Shape).Idx → EReal) {i j k l m : ℕ} (h : i < a) (h' : j < b)
    (h'' : k < c) (h3 : l < d) (h4 : m < e) : rd5 A i j k l m = A (ix5 ⟨i, h⟩ ⟨j, h'⟩ ⟨k, h''⟩ ⟨l, h3⟩ ⟨m, h4⟩) :=
  dif_pos ⟨h, h', h'', h3, h4⟩
theorem rd6_of {a b c d e f : ℕ} (A : (⟨6, ![a, b, c, d, e, f]⟩ : Shape).Idx → EReal) {i j k l m n : ℕ} (h : i < a) (h' : j < b)
    (h'' : k < c) (h3 : l < d) (h4 : m < e) (h5 : n < f) :
    rd6 A i j k l m n = A (ix6 ⟨i, h⟩ ⟨j, h'⟩ ⟨k, h''⟩ ⟨l, h3⟩ ⟨m, h4⟩ ⟨n, h5⟩) := dif_pos ⟨h, h', h'', h3, h4, h5⟩

/-! ## Convolutions -/

/-- A stack of planes (image, channel, row, column). -/
abbrev Plane := ℕ → ℕ → ℕ → ℕ → EReal

/-- `f` on an `H × W` plane with a border of one zero. -/
def padded (H W : ℕ) (f : Plane) : Plane := fun n c a b =>
  if (1 ≤ a ∧ a - 1 < H) ∧ 1 ≤ b ∧ b - 1 < W then f n c (a - 1) (b - 1) else 0

/-- `f` on an `H × W` plane with a zero between neighbours and a border of two zeros. -/
def dilated (H W : ℕ) (f : Plane) : Plane := fun n c a b =>
  if (2 ≤ a ∧ (a - 2) % 2 = 0 ∧ (a - 2) / 2 < H) ∧ 2 ≤ b ∧ (b - 2) % 2 = 0 ∧ (b - 2) / 2 < W then f n c ((a - 2) / 2) ((b - 2) / 2) else 0

/-- The sum of the products of the window at `(s·i, s·j)` with the weights of output channel `o`. -/
def winSum (C K s : ℕ) (w : Plane) (g : Plane) : Plane := fun n o i j =>
  ∑ c : Fin C, ∑ k : Fin K, ∑ l : Fin K, w o c k l * g n c (s * i + k) (s * j + l)

theorem winSum_congr {C K s : ℕ} {w w' g g' : Plane} {n o i j : ℕ} (hw : ∀ (c : Fin C) (k l : Fin K), w o c k l = w' o c k l)
    (hg : ∀ (c : Fin C) (k l : Fin K), g n c (s * i + k) (s * j + l) = g' n c (s * i + k) (s * j + l)) :
    winSum C K s w g n o i j = winSum C K s w' g' n o i j := by
  unfold winSum
  refine Finset.sum_congr rfl fun c _ => Finset.sum_congr rfl fun k _ => Finset.sum_congr rfl fun l _ => ?_
  rw [hw, hg]

/-- A convolution with bias and relu. -/
def convRelu (C K s : ℕ) (w : Plane) (b : ℕ → EReal) (g : Plane) : Plane := fun n o i j =>
  max (winSum C K s w g n o i j + b o) 0

/-- The weights of a transposed convolution as those of a convolution: channels exchanged, window flipped. -/
def flipped (w : Plane) : Plane := fun o c k l => w c o (3 - k) (3 - l)

/-! ## The nearest codebook row -/

/-- The row number with the smallest distance, the first of several. -/
def IsFirstMin (K : ℕ) (d : ℕ → EReal) (i : ℕ) : Prop :=
  i < K ∧ ∀ k < K, d i ≤ d k ∧ (k < i → d i < d k)

theorem IsFirstMin.unique {K : ℕ} {d : ℕ → EReal} {i j : ℕ} (hi : IsFirstMin K d i) (hj : IsFirstMin K d j) : i = j := by
  rcases lt_trichotomy i j with h | h | h
  · exact absurd ((hj.2 i hi.1).2 h) (not_lt.mpr (hi.2 j hj.1).1)
  · exact h
  · exact absurd ((hi.2 j hj.1).2 h) (not_lt.mpr (hj.2 i hi.1).1)

/-- The distance of the vector `z` to codebook row `k`, as both programs compute it. -/
def dist (cb : ℕ → ℕ → EReal) (z : ℕ → EReal) (k : ℕ) : EReal :=
  ((∑ c : Fin 64, z c * z c) + ∑ c : Fin 64, cb k c * cb k c) - Ideal.ofBits .f32 0x40000000#32 * ∑ c : Fin 64, z c * cb k c

/-- The first nearest codebook row (row 0 when there is none). -/
def nearest (cb : ℕ → ℕ → EReal) (z : ℕ → EReal) : ℕ :=
  open Classical in if h : ∃ i, IsFirstMin 512 (dist cb z) i then h.choose else 0

theorem nearest_eq {cb : ℕ → ℕ → EReal} {z : ℕ → EReal} {i : ℕ} (h : IsFirstMin 512 (dist cb z) i) : nearest cb z = i := by
  rw [nearest, dif_pos ⟨i, h⟩]
  exact (Exists.choose_spec (⟨i, h⟩ : ∃ i, IsFirstMin 512 (dist cb z) i)).unique h

/-- Every point's vector of channels replaced by the nearest codebook row. -/
def quantised (cb : ℕ → ℕ → EReal) (z : Plane) : Plane := fun n c i j => cb (nearest cb fun c => z n c i j) c

/-! ## The network -/

/-- Columns stretched from 1404 to 1407, nearest neighbour. -/
def stretched (h : Plane) : Plane := fun n c i j => h n c i (j * 1404 / 1407)

/-- The output layer: a 3 × 3 convolution, relu and tanh. -/
def outLayer (w : Plane) (b : ℕ → EReal) (h : Plane) : Plane := fun n o i j =>
  Ideal.tanh (convRelu 64 3 1 w b (padded 64 1407 (stretched h)) n o i j)

end Cert.Proof
-- ==== Proof.Net.lean ====
/-
  The whole network as a function of its arguments, and the identities both sides use: planes that agree in range have
  the same padding; a transposed convolution read at one parity is a sum over four taps.
-/
module

public import proofs.«01_k».proof.Proof.Spec

@[expose] public section

set_option maxRecDepth 16384

noncomputable section

namespace Cert.Proof

open Idealize.ShloMosaic

/-- The arguments: the image, the weights and biases of five layers, and the codebook. -/
structure Args where
  x : Plane
  w1 : Plane
  b1 : ℕ → EReal
  w2 : Plane
  b2 : ℕ → EReal
  cb : ℕ → ℕ → EReal
  wd1 : Plane
  bd1 : ℕ → EReal
  wd2 : Plane
  bd2 : ℕ → EReal
  wo : Plane
  bo : ℕ → EReal

namespace Args

variable (A : Args)

/-- First encoder layer. -/
def z1 : Plane := convRelu 1 4 2 A.w1 A.b1 (padded 64 1407 A.x)
/-- Second encoder layer. -/
def z2 : Plane := convRelu 128 4 2 A.w2 A.b2 (padded 32 703 A.z1)
/-- The codes. -/
def zq : Plane := quantised A.cb A.z2
/-- First decoder layer. -/
def h1 : Plane := convRelu 64 4 1 (flipped A.wd1) A.bd1 (dilated 16 351 A.zq)
/-- Second decoder layer. -/
def h2 : Plane := convRelu 128 4 1 (flipped A.wd2) A.bd2 (dilated 32 702 A.h1)
/-- The reconstruction. -/
def out : Plane := outLayer A.wo A.bo A.h2

end Args

theorem padded_congr {H W : ℕ} {f g : Plane} {n c : ℕ} (h : ∀ i < H, ∀ j < W, f n c i j = g n c i j) (a b : ℕ) :
    padded H W f n c a b = padded H W g n c a b := by
  unfold padded
  split
  · next h' => exact h _ h'.1.2 _ h'.2.2
  · rfl

theorem dilated_congr {H W : ℕ} {f g : Plane} {n c : ℕ} (h : ∀ i < H, ∀ j < W, f n c i j = g n c i j) (a b : ℕ) :
    dilated H W f n c a b = dilated H W g n c a b := by
  unfold dilated
  split
  · next h' => exact h _ h'.1.2.2 _ h'.2.2.2
  · rfl

/-- Convolutions of grids that agree on the channels summed. -/
theorem convRelu_congr {C K s : ℕ} {w : Plane} {b : ℕ → EReal} {g g' : Plane} {n o i j : ℕ}
    (h : ∀ (c : Fin C) (a b : ℕ), g n c a b = g' n c a b) : convRelu C K s w b g n o i j = convRelu C K s w b g' n o i j := by
  unfold convRelu
  rw [winSum_congr (fun _ _ _ => rfl) fun c k l => h c _ _]

theorem dist_congr {cb : ℕ → ℕ → EReal} {z z' : ℕ → EReal} (h : ∀ c < 64, z c = z' c) : dist cb z = dist cb z' := by
  funext k
  unfold dist
  have e : ∀ c : Fin 64, z c = z' c := fun c => h c c.isLt
  simp only [e]

theorem nearest_congr {cb : ℕ → ℕ → EReal} {z z' : ℕ → EReal} (h : ∀ c < 64, z c = z' c) : nearest cb z = nearest cb z' := by
  unfold nearest
  rw [dist_congr h]

theorem mul_eq {a b a' b' : EReal} (h : a = a') (h' : b = b') : a * b = a' * b' := by rw [h, h']

theorem relu_eq {a b a' b' : EReal} (h : a = a') (h' : b = b') : max (a + b) 0 = max (a' + b') 0 := by rw [h, h']

/-- Sixteen taps as four rows of four. -/
theorem sum_sixteen (f : ℕ → ℕ → EReal) : ∑ k : Fin 16, f (k / 4) (k % 4) = ∑ a : Fin 4, ∑ b : Fin 4, f a b := by
  simp only [Fin.sum_univ_succ, Fin.sum_univ_zero, Fin.val_zero, Fin.val_succ, add_zero, zero_add, Nat.reduceAdd, Nat.reduceDiv,
    Nat.reduceMod, add_assoc]

/-- Of four terms, the two of parity `a`. -/
theorem sum_parity (F : ℕ → EReal) (a : ℕ) (ha : a < 2) (h : ∀ k < 4, k % 2 ≠ a → F k = 0) :
    ∑ k : Fin 4, F k = ∑ t : Fin 2, F (a + 2 * t) := by
  have hs : ∑ k : Fin 4, F k = F 0 + (F 1 + (F 2 + F 3)) := by
    simp only [Fin.sum_univ_succ, Fin.sum_univ_zero, Fin.val_zero, Fin.val_succ, add_zero, zero_add, Nat.reduceAdd]
  have ht : ∑ t : Fin 2, F (a + 2 * t) = F a + F (a + 2) := by
    simp only [Fin.sum_univ_succ, Fin.sum_univ_zero, Fin.val_zero, Fin.val_succ, add_zero, zero_add, Nat.reduceAdd, Nat.mul_zero, Nat.mul_one]
  rw [hs, ht]
  interval_cases a
  · rw [h 1 (by omega) (by omega), h 3 (by omega) (by omega), zero_add, add_zero]
  · rw [h 0 (by omega) (by omega), h 2 (by omega) (by omega), zero_add, zero_add]

/-- A dilated plane at the right parity is the padded plane. -/
theorem dilated_even (H W : ℕ) (f : Plane) (n c i j a b t u : ℕ) :
    dilated H W f n c (1 * (2 * i + a) + (a + 2 * t)) (1 * (2 * j + b) + (b + 2 * u)) = padded H W f n c (a + t + i) (b + u + j) := by
  have e1 : (1 * (2 * i + a) + (a + 2 * t) - 2) / 2 = a + t + i - 1 := by omega
  have e2 : (1 * (2 * j + b) + (b + 2 * u) - 2) / 2 = b + u + j - 1 := by omega
  unfold dilated padded
  rw [e1, e2]
  refine if_congr ?_ rfl rfl
  omega

/-- A dilated plane at the other parity is zero. -/
theorem dilated_odd (H W : ℕ) (f : Plane) (n c x y : ℕ) (h : x % 2 ≠ 0 ∨ y % 2 ≠ 0) : dilated H W f n c x y = 0 := by
  unfold dilated
  rw [if_neg]
  rintro ⟨⟨h1, h2, -⟩, h3, h4, -⟩
  omega

/-- A transposed convolution with stride two at one parity: four taps of the padded plane. -/
theorem transposed (C H W : ℕ) (w : Plane) (f : Plane) (n o i j a b : ℕ) (ha : a < 2) (hb : b < 2) :
    winSum C 4 1 (flipped w) (dilated H W f) n o (2 * i + a) (2 * j + b)
      = ∑ t : Fin 2, ∑ u : Fin 2, ∑ c : Fin C, padded H W f n c (a + t + i) (b + u + j) * w c o (3 - 2 * t - a) (3 - 2 * u - b) := by
  unfold winSum flipped
  have e (c : Fin C) : (∑ k : Fin 4, ∑ l : Fin 4, w c o (3 - k) (3 - l) * dilated H W f n c (1 * (2 * i + a) + k) (1 * (2 * j + b) + l))
      = ∑ t : Fin 2, ∑ u : Fin 2, padded H W f n c (a + t + i) (b + u + j) * w c o (3 - 2 * t - a) (3 - 2 * u - b) := by
    refine (sum_parity (fun k => ∑ l : Fin 4, w c o (3 - k) (3 - l) * dilated H W f n c (1 * (2 * i + a) + k) (1 * (2 * j + b) + l)) a ha
      fun k hk hka => Finset.sum_eq_zero fun l _ => ?_).trans ?_
    · rw [dilated_odd _ _ _ _ _ _ _ (by omega), mul_zero]
    · refine Finset.sum_congr rfl fun t _ => ?_
      refine (sum_parity (fun l => w c o (3 - (a + 2 * t)) (3 - l) * dilated H W f n c (1 * (2 * i + a) + (a + 2 * t)) (1 * (2 * j + b) + l)) b hb
        fun l hl hlb => ?_).trans ?_
      · show _ * _ = _
        rw [dilated_odd _ _ _ _ _ _ _ (by omega), mul_zero]
      · refine Finset.sum_congr rfl fun u _ => ?_
        show _ * _ = _
        rw [dilated_even, mul_comm]
        congr 2 <;> omega
  rw [Finset.sum_congr rfl fun c _ => e c, Finset.sum_comm]
  refine Finset.sum_congr rfl fun t _ => ?_
  rw [Finset.sum_comm]

/-- The column of the padded planes that column `k` of the stretched, padded ones is. -/
def column (k : ℕ) : ℕ := if k = 0 then 0 else if k = 1408 then 1405 else (k - 1) * 1404 / 1407 + 1

/-- The columns the last layer reads, stretched while padding. -/
theorem padded_stretched (f : Plane) (n c a k : ℕ) (hk : k < 1409) :
    padded 64 1404 f n c a (column k)
      = padded 64 1407 (stretched f) n c a k := by
  unfold padded stretched column
  split
  · subst k; rw [if_neg (by omega), if_neg (by omega)]
  split
  · subst k; rw [if_neg (by omega), if_neg (by omega)]
  · rw [Nat.add_sub_cancel]
    exact if_congr (by omega) rfl rfl

end Cert.Proof

end
-- ==== Proof.Windows.lean ====
/-
  Host gathers that cut windows out of a plane, and the contraction of windows with weights: each read at an index.
-/
module

public import proofs.«01_k».proof.Proof.Spec
public import Idealize.ShloMosaic.PureOps

@[expose] public section

noncomputable section

open scoped BigOperators

namespace Cert.Proof

open Idealize.ShloMosaic

/-! ## Gathers along one axis -/

section Gathers
variable {α : Type}

/-- A gather whose start indices name one axis `p`, at an index: the operand at `i`, where `i` is the table's entry on
    axis `p` and the window's coordinate on the others. -/
theorem gather_one {s si t : Shape} (d : GatherDims s si t) (p : Fin s.rank) (hm : d.startIndexMap = [p])
    (hc : d.collapsedSliceDims = [p]) (hb : d.operandBatchingDims = []) (x : s.Idx → α) (idx : IVec si 32) (j : t.Idx) (i : s.Idx)
    (h0 : ∀ a, a ≠ p → d.offCoord j a = (i a).val) (q : si.Idx)
    (hq : d.siIdx j ⟨0, by rw [hm]; exact Nat.one_pos⟩ = q)
    (hp : min (idx q).toInt.toNat (s.size p - d.sliceSizes p) = (i p).val) :
    Host.gather d x idx j = x i := by
  unfold Host.gather
  congr 1
  funext a
  refine Fin.ext ?_
  show d.start j idx a + d.batchCoord j a + d.offCoord j a = _
  rw [GatherDims.batchCoord_eq_zero _ _ _ (by rw [hb]; exact List.not_mem_nil)]
  by_cases ha : a = p
  · subst ha
    rw [GatherDims.offCoord_eq_zero _ _ _ (fun h => ((GatherDims.mem_sKept _ _).mp h).1 (by rw [hc]; exact List.mem_singleton.mpr rfl))]
    unfold GatherDims.start
    rw [dif_pos (by rw [hm]; exact List.mem_singleton.mpr rfl)]
    have h1 : (⟨d.startIndexMap.idxOf a, List.idxOf_lt_length_iff.2 (by rw [hm]; exact List.mem_singleton.mpr rfl)⟩ :
        Fin d.startIndexMap.length) = ⟨0, by rw [hm]; exact Nat.one_pos⟩ := Fin.ext (by simp [hm])
    rw [h1, hq, hp]
    rfl
  · unfold GatherDims.start
    rw [dif_neg (by rw [hm]; exact fun h => ha (List.mem_singleton.mp h)), h0 a ha]
    omega

/-- Rows `idx[l, k]` of a rank-4 array: the dimension numbers. -/
abbrev rowDims (N C H W L K : ℕ)
    (wf : GatherDims.WF ⟨4, ![N, C, H, W]⟩ ⟨3, ![L, K, 1]⟩ ⟨5, ![N, C, L, K, W]⟩ [0, 1, 4] [2] [] [2] [] 2 ![N, C, 1, W]) :
    GatherDims ⟨4, ![N, C, H, W]⟩ ⟨3, ![L, K, 1]⟩ ⟨5, ![N, C, L, K, W]⟩ where
  offsetDims := [0, 1, 4]
  collapsedSliceDims := [2]
  operandBatchingDims := []
  startIndicesBatchingDims := []
  startIndexMap := [2]
  indexVectorDim := 2
  sliceSizes := ![N, C, 1, W]
  wf := wf

/-- Columns `idx[l, k]` of a rank-5 array: the dimension numbers. -/
abbrev colDims (N C A B W L K : ℕ)
    (wf : GatherDims.WF ⟨5, ![N, C, A, B, W]⟩ ⟨3, ![L, K, 1]⟩ ⟨6, ![N, C, A, B, L, K]⟩ [0, 1, 2, 3] [4] [] [4] [] 2 ![N, C, A, B, 1]) :
    GatherDims ⟨5, ![N, C, A, B, W]⟩ ⟨3, ![L, K, 1]⟩ ⟨6, ![N, C, A, B, L, K]⟩ where
  offsetDims := [0, 1, 2, 3]
  collapsedSliceDims := [4]
  operandBatchingDims := []
  startIndicesBatchingDims := []
  startIndexMap := [4]
  indexVectorDim := 2
  sliceSizes := ![N, C, A, B, 1]
  wf := wf

/-- A row gather at an index: the row named by the table. -/
theorem gather_rows {N C H W L K : ℕ} {wf} (x : (⟨4, ![N, C, H, W]⟩ : Shape).Idx → α) (idx : IVec ⟨3, ![L, K, 1]⟩ 32)
    (n : Fin N) (c : Fin C) (l : Fin L) (k : Fin K) (w : Fin W) (r : Fin H) (hr : (idx (ix3 l k 0)).toInt.toNat = r) :
    Host.gather (rowDims N C H W L K wf) x idx (ix5 n c l k w) = x (ix4 n c r w) := by
  refine gather_one _ 2 rfl rfl rfl x idx _ _ ?_ (ix3 l k 0) ?_ ?_
  · intro a ha
    match a with
    | ⟨0, _⟩ => rfl
    | ⟨1, _⟩ => rfl
    | ⟨2, _⟩ => exact absurd rfl ha
    | ⟨3, _⟩ => rfl
  · funext b; refine Fin.ext ?_
    match b with
    | ⟨0, _⟩ => rfl
    | ⟨1, _⟩ => rfl
    | ⟨2, _⟩ => rfl
  · show min (idx (ix3 l k 0)).toInt.toNat (H - 1) = r.val
    rw [hr]; have := r.isLt; omega

/-- A column gather at an index: the column named by the table. -/
theorem gather_cols {N C A B W L K : ℕ} {wf} (x : (⟨5, ![N, C, A, B, W]⟩ : Shape).Idx → α) (idx : IVec ⟨3, ![L, K, 1]⟩ 32)
    (n : Fin N) (c : Fin C) (i : Fin A) (k : Fin B) (j : Fin L) (l : Fin K) (r : Fin W) (hr : (idx (ix3 j l 0)).toInt.toNat = r) :
    Host.gather (colDims N C A B W L K wf) x idx (ix6 n c i k j l) = x (ix5 n c i k r) := by
  refine gather_one _ 4 rfl rfl rfl x idx _ _ ?_ (ix3 j l 0) ?_ ?_
  · intro a ha
    match a with
    | ⟨0, _⟩ => rfl
    | ⟨1, _⟩ => rfl
    | ⟨2, _⟩ => rfl
    | ⟨3, _⟩ => rfl
    | ⟨4, _⟩ => exact absurd rfl ha
  · funext b; refine Fin.ext ?_
    match b with
    | ⟨0, _⟩ => rfl
    | ⟨1, _⟩ => rfl
    | ⟨2, _⟩ => rfl
  · show min (idx (ix3 j l 0)).toInt.toNat (W - 1) = r.val
    rw [hr]; have := r.isLt; omega

end Gathers

/-! ## The contraction of windows with weights -/

/-- Weights `(o, c, k, l)` against windows `(n, c, i, k, j, l)`, contracted over `c, k, l`: the dimension numbers. -/
abbrev winDims (O C K N L M : ℕ)
    (wf : DotDims.WF ⟨4, ![O, C, K, K]⟩ ⟨6, ![N, C, L, K, M, K]⟩ ⟨4, ![O, N, L, M]⟩ [1, 2, 3] [1, 3, 5] [0] [0, 2, 4] [] []) :
    DotDims ⟨4, ![O, C, K, K]⟩ ⟨6, ![N, C, L, K, M, K]⟩ ⟨4, ![O, N, L, M]⟩ where
  lhsContracting := [1, 2, 3]
  rhsContracting := [1, 3, 5]
  lhsNonContracting := [0]
  rhsNonContracting := [0, 2, 4]
  lhsBatch := []
  rhsBatch := []
  wf := wf

/-- The contraction index from its three coordinates. -/
def winIdx {O C K N L M : ℕ} {wf} (c : Fin C) (k l : Fin K) : (winDims O C K N L M wf).contr.Idx := fun p =>
  match p with
  | ⟨0, _⟩ => (c : Fin C)
  | ⟨1, _⟩ => (k : Fin K)
  | ⟨2, _⟩ => (l : Fin K)

/-- The contraction at an index: the sum over channel and window. -/
theorem win_dot {O C K N L M : ℕ} {wf} (w : (⟨4, ![O, C, K, K]⟩ : Shape).Idx → EReal)
    (x : (⟨6, ![N, C, L, K, M, K]⟩ : Shape).Idx → EReal) (o : Fin O) (n : Fin N) (i : Fin L) (j : Fin M) :
    Host.dotGeneral (φ₁ := .f32) (φ₂ := .f32) (F := Ideal) (winDims O C K N L M wf) none w x (ix4 o n i j)
      = ∑ c : Fin C, ∑ k : Fin K, ∑ l : Fin K, w (ix4 o c k l) * x (ix6 n c i k j l) := by
  rw [show Host.dotGeneral (φ₁ := .f32) (φ₂ := .f32) (F := Ideal) (winDims O C K N L M wf) none w x (ix4 o n i j) = _ from
    Ideal.dotGeneral_apply (φ₁ := .f32) (φ₂ := .f32) (winDims O C K N L M wf) none _ w x (ix4 o n i j)]
  let e : (Fin C × Fin K × Fin K) ≃ (winDims O C K N L M wf).contr.Idx :=
    { toFun := fun p => winIdx p.1 p.2.1 p.2.2
      invFun := fun q => (q ⟨0, show 0 < 3 by decide⟩, q ⟨1, show 1 < 3 by decide⟩, q ⟨2, show 2 < 3 by decide⟩)
      left_inv := fun p => rfl
      right_inv := fun q => by
        funext a
        match a with
        | ⟨0, _⟩ => rfl
        | ⟨1, _⟩ => rfl
        | ⟨2, _⟩ => rfl }
  rw [← Fintype.sum_equiv e (fun p => w (ix4 o p.1 p.2.1 p.2.2) * x (ix6 n p.1 i p.2.1 j p.2.2)) _ ?_]
  · simp only [Fintype.sum_prod_type]
  · intro p
    have hl : (winDims O C K N L M wf).lhsIdx (ix4 o n i j) (e p) = ix4 o p.1 p.2.1 p.2.2 := by
      funext a
      match a with
      | ⟨0, _⟩ => rfl
      | ⟨1, _⟩ => rfl
      | ⟨2, _⟩ => rfl
      | ⟨3, _⟩ => rfl
    have hr : (winDims O C K N L M wf).rhsIdx (ix4 o n i j) (e p) = ix6 n p.1 i p.2.1 j p.2.2 := by
      funext a
      match a with
      | ⟨0, _⟩ => rfl
      | ⟨1, _⟩ => rfl
      | ⟨2, _⟩ => rfl
      | ⟨3, _⟩ => rfl
      | ⟨4, _⟩ => rfl
      | ⟨5, _⟩ => rfl
    rw [hl, hr]

/-- Both gathers and the contraction: with tables `s·i + k`, the window sum of the plane. -/
theorem win_conv {O C K N L M H W s : ℕ} {wr wc wd} (w : (⟨4, ![O, C, K, K]⟩ : Shape).Idx → EReal)
    (x : (⟨4, ![N, C, H, W]⟩ : Shape).Idx → EReal) (rows : IVec ⟨3, ![L, K, 1]⟩ 32) (cols : IVec ⟨3, ![M, K, 1]⟩ 32)
    (hr : ∀ l k, (rows (ix3 l k 0)).toInt.toNat = s * l.val + k.val) (hc : ∀ l k, (cols (ix3 l k 0)).toInt.toNat = s * l.val + k.val)
    (hH : ∀ (l : Fin L) (k : Fin K), s * l.val + k.val < H) (hW : ∀ (l : Fin M) (k : Fin K), s * l.val + k.val < W)
    (o : Fin O) (n : Fin N) (i : Fin L) (j : Fin M) :
    Host.dotGeneral (φ₁ := .f32) (φ₂ := .f32) (F := Ideal) (winDims O C K N L M wd) none w
        (Host.gather (colDims N C L K W M K wc) (Host.gather (rowDims N C H W L K wr) x rows) cols) (ix4 o n i j)
      = winSum C K s (rd4 w) (rd4 x) n o i j := by
  rw [win_dot, winSum]
  refine Finset.sum_congr rfl fun c _ => Finset.sum_congr rfl fun k _ => Finset.sum_congr rfl fun l _ => ?_
  rw [gather_cols _ _ _ _ _ _ _ _ ⟨s * j.val + l.val, hW j l⟩ (hc j l),
    gather_rows _ _ _ _ _ _ _ ⟨s * i.val + k.val, hH i k⟩ (hr i k), at4 w, at4 x]

end Cert.Proof
-- ==== Proof.RefConv.lean ====
/-
  The reference's convolution stages: after each, its result at an index is the convolution with bias and relu of the
  stage before, padded or dilated.
-/
module

public import proofs.«01_k».proof.Proof.Windows
public import proofs.«01_k».proof.Proof.RefOps
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

/-- The word zero as a number. -/
theorem sitofp_zero : (FloatOps.sitofp (F := Ideal) .f32 (0#32) : EReal) = 0 := by
  show (((0#32 : BitVec 32).toInt : ℝ) : EReal) = 0
  simp

/-- The index tables' entries: `s·l + k`, read back from the word. -/
theorem tab_nat (s l k : ℕ) (h : s * l + k < 2 ^ 31) :
    (IntOp.addi (IntOp.muli (BitVec.ofNat 32 s) (BitVec.ofNat 32 l)) (BitVec.ofNat 32 k)).toInt.toNat = s * l + k := by
  show (BitVec.ofNat 32 s * BitVec.ofNat 32 l + BitVec.ofNat 32 k).toInt.toNat = s * l + k
  rw [← BitVec.ofNat_mul, ← BitVec.ofNat_add, BitVec.toInt_eq_toNat_of_lt]
  · rw [BitVec.toNat_ofNat, Nat.mod_eq_of_lt (by omega)]; rfl
  · rw [BitVec.toNat_ofNat, Nat.mod_eq_of_lt (by omega)]; omega

/-- The same at stride one. -/
theorem tab_one (l k : ℕ) (h : l + k < 2 ^ 31) :
    (IntOp.addi (IntOp.muli (BitVec.ofNat 32 1) (BitVec.ofNat 32 l)) (BitVec.ofNat 32 k)).toInt.toNat = l + k := by
  rw [tab_nat 1 l k (by omega), Nat.one_mul]

/-- The weights turned round and transposed, at an index. -/
theorem flip_win {A B : ℕ} (W : (⟨4, ![A, B, 4, 4]⟩ : Shape).Idx → EReal)
    (h : (⟨4, ![A, B, 4, 4]⟩ : Shape).Transposes [1, 0, 2, 3] ⟨4, ![B, A, 4, 4]⟩) (o : Fin B) (c : Fin A) (k l : Fin 4) :
    transpose ⟨4, ![B, A, 4, 4]⟩ [1, 0, 2, 3] (Host.reverse [2, 3] W) h (ix4 o c k l) = flipped (rd4 W) o c k l := by
  have h1 : transpose ⟨4, ![B, A, 4, 4]⟩ [1, 0, 2, 3] (Host.reverse [2, 3] W) h (ix4 o c k l) = W (ix4 c o k.rev l.rev) := by
    refine congrArg W (funext fun a => ?_)
    match a with
    | ⟨0, _⟩ => rfl
    | ⟨1, _⟩ => rfl
    | ⟨2, _⟩ => rfl
    | ⟨3, _⟩ => rfl
  rw [h1, at4 W, Fin.val_rev, Fin.val_rev, flipped, show 4 - (k.val + 1) = 3 - k.val by omega, show 4 - (l.val + 1) = 3 - l.val by omega]

/-- Bias and relu of equal sums. -/
theorem relu_congr {a a' b : EReal} (h : a = a') : max (a + b) 0 = max (a' + b) 0 := by rw [h]

variable (V : Valuation τ sig (Elt Ideal))

/-- After the first convolution. -/
theorem stage0 (n : Fin 8) (o : Fin 128) (i : Fin 32) (j : Fin 703) :
    (after (ops0 (F := Ideal)) V (Proc.devRef .tc main_v26) : (⟨4, ![8, 128, 32, 703]⟩ : Shape).Idx → EReal) (ix4 n o i j)
      = convRelu 1 4 2 (rd4 (V (Proc.devRef .tc main_arg1))) (rd1 (V (Proc.devRef .tc main_arg2)))
          (padded 64 1407 (rd4 (V (Proc.devRef .tc main_arg0)))) n o i j := by
  unfold ops0
  after_reads_simp
  simp -implicitDefEqProofs only [TRef.toBuf, TRef.ofBuf, cast_cast, cast_eq]
  generalize hD : Host.dotGeneral (F := Ideal) (φ₁ := .f32) (φ₂ := .f32) _ _ _ _ = D
  pointwise
  rw [at1 (V (Proc.devRef .tc main_arg2)), ← hD]
  refine relu_congr ((win_conv (s := 2) _ _ _ _ ?_ ?_ ?_ ?_ o n i j).trans (winSum_congr (fun _ _ _ => rfl) ?_))
  · intro l k; pointwise; exact tab_nat 2 l k (by omega)
  · intro l k; pointwise; exact tab_nat 2 l k (by omega)
  · omega
  · omega
  · intro c k l
    rw [rd4_of _ n.isLt c.isLt (by omega) (by omega)]
    pointwise
    rw [sitofp_zero]
    simp only [at4 (V (Proc.devRef .tc main_arg0)), dite_eq_ite]
    rfl

/-- After the second convolution. -/
theorem stage1 (n : Fin 8) (o : Fin 64) (i : Fin 16) (j : Fin 351) :
    (after (ops1 (F := Ideal)) V (Proc.devRef .tc main_v53) : (⟨4, ![8, 64, 16, 351]⟩ : Shape).Idx → EReal) (ix4 n o i j)
      = convRelu 128 4 2 (rd4 (V (Proc.devRef .tc main_arg3))) (rd1 (V (Proc.devRef .tc main_arg4)))
          (padded 32 703 (rd4 (V (Proc.devRef .tc main_v26)))) n o i j := by
  unfold ops1
  after_reads_simp
  simp -implicitDefEqProofs only [TRef.toBuf, TRef.ofBuf, cast_cast, cast_eq]
  generalize hD : Host.dotGeneral (F := Ideal) (φ₁ := .f32) (φ₂ := .f32) _ _ _ _ = D
  pointwise
  rw [at1 (V (Proc.devRef .tc main_arg4)), ← hD]
  refine relu_congr ((win_conv (s := 2) _ _ _ _ ?_ ?_ ?_ ?_ o n i j).trans (winSum_congr (fun _ _ _ => rfl) ?_))
  · intro l k; pointwise; exact tab_nat 2 l k (by omega)
  · intro l k; pointwise; exact tab_nat 2 l k (by omega)
  · omega
  · omega
  · intro c k l
    rw [rd4_of _ n.isLt c.isLt (by omega) (by omega)]
    pointwise
    rw [sitofp_zero]
    simp only [at4 (V (Proc.devRef .tc main_v26)), dite_eq_ite]
    rfl

/-- After the first transposed convolution: a convolution of the dilated plane with the flipped weights. -/
theorem stage3 (n : Fin 8) (o : Fin 128) (i : Fin 32) (j : Fin 702) :
    (after (ops3 (F := Ideal)) V (Proc.devRef .tc main_v102) : (⟨4, ![8, 128, 32, 702]⟩ : Shape).Idx → EReal) (ix4 n o i j)
      = convRelu 64 4 1 (flipped (rd4 (V (Proc.devRef .tc main_arg6)))) (rd1 (V (Proc.devRef .tc main_arg7)))
          (dilated 16 351 (rd4 (V (Proc.devRef .tc main_v73)))) n o i j := by
  unfold ops3
  after_reads_simp
  simp -implicitDefEqProofs only [TRef.toBuf, TRef.ofBuf, cast_cast, cast_eq]
  generalize hD : Host.dotGeneral (F := Ideal) (φ₁ := .f32) (φ₂ := .f32) _ _ _ _ = D
  pointwise
  rw [at1 (V (Proc.devRef .tc main_arg7)), ← hD]
  refine relu_congr ((win_conv (s := 1) _ _ _ _ ?_ ?_ ?_ ?_ o n i j).trans (winSum_congr ?_ ?_))
  · intro l k; pointwise; exact tab_one l k (by omega)
  · intro l k; pointwise; exact tab_one l k (by omega)
  · omega
  · omega
  · intro c k l
    rw [rd4_of _ o.isLt c.isLt k.isLt l.isLt]
    exact flip_win (V (Proc.devRef .tc main_arg6)) _ o c k l
  · intro c k l
    rw [rd4_of _ n.isLt c.isLt (by omega) (by omega)]
    pointwise
    simp only [at4 (V (Proc.devRef .tc main_v73)), dite_eq_ite]
    rfl

/-- After the second transposed convolution. -/
theorem stage4 (n : Fin 8) (o : Fin 64) (i : Fin 64) (j : Fin 1404) :
    (after (ops4 (F := Ideal)) V (Proc.devRef .tc main_v131) : (⟨4, ![8, 64, 64, 1404]⟩ : Shape).Idx → EReal) (ix4 n o i j)
      = convRelu 128 4 1 (flipped (rd4 (V (Proc.devRef .tc main_arg8)))) (rd1 (V (Proc.devRef .tc main_arg9)))
          (dilated 32 702 (rd4 (V (Proc.devRef .tc main_v102)))) n o i j := by
  unfold ops4
  after_reads_simp
  simp -implicitDefEqProofs only [TRef.toBuf, TRef.ofBuf, cast_cast, cast_eq]
  generalize hD : Host.dotGeneral (F := Ideal) (φ₁ := .f32) (φ₂ := .f32) _ _ _ _ = D
  pointwise
  rw [at1 (V (Proc.devRef .tc main_arg9)), ← hD]
  refine relu_congr ((win_conv (s := 1) _ _ _ _ ?_ ?_ ?_ ?_ o n i j).trans (winSum_congr ?_ ?_))
  · intro l k; pointwise; exact tab_one l k (by omega)
  · intro l k; pointwise; exact tab_one l k (by omega)
  · omega
  · omega
  · intro c k l
    rw [rd4_of _ o.isLt c.isLt k.isLt l.isLt]
    exact flip_win (V (Proc.devRef .tc main_arg8)) _ o c k l
  · intro c k l
    rw [rd4_of _ n.isLt c.isLt (by omega) (by omega)]
    pointwise
    simp only [at4 (V (Proc.devRef .tc main_v102)), dite_eq_ite]
    rfl

/-- After the output convolution and tanh. -/
theorem stage6 (n : Fin 8) (o : Fin 1) (i : Fin 64) (j : Fin 1407) :
    (after (ops6 (F := Ideal)) V (Proc.devRef .tc main_v171) : (⟨4, ![8, 1, 64, 1407]⟩ : Shape).Idx → EReal) (ix4 n o i j)
      = Ideal.tanh (convRelu 64 3 1 (rd4 (V (Proc.devRef .tc main_arg10))) (rd1 (V (Proc.devRef .tc main_arg11)))
          (padded 64 1407 (rd4 (V (Proc.devRef .tc main_v143)))) n o i j) := by
  unfold ops6
  after_reads_simp
  simp -implicitDefEqProofs only [TRef.toBuf, TRef.ofBuf, cast_cast, cast_eq]
  generalize hD : Host.dotGeneral (F := Ideal) (φ₁ := .f32) (φ₂ := .f32) _ _ _ _ = D
  obtain rfl : o = 0 := Subsingleton.elim _ _
  pointwise
  rw [at1 (V (Proc.devRef .tc main_arg11)), ← hD]
  refine congrArg Ideal.tanh (relu_congr ((win_conv (s := 1) _ _ _ _ ?_ ?_ ?_ ?_ 0 n i j).trans (winSum_congr (fun _ _ _ => rfl) ?_)))
  · intro l k; pointwise; exact tab_one l k (by omega)
  · intro l k; pointwise; exact tab_one l k (by omega)
  · omega
  · omega
  · intro c k l
    rw [rd4_of _ n.isLt c.isLt (by omega) (by omega)]
    pointwise
    rw [sitofp_zero]
    simp only [at4 (V (Proc.devRef .tc main_v143)), dite_eq_ite]
    rfl

end Cert.Proof.Ref
-- ==== Proof.RefTail.lean ====
/-
  The reference's last stages: the stretched plane before the output layer, and the three rounds after it, which keep
  the first round's result when the input holds real numbers.
-/
module

public import proofs.«01_k».proof.Proof.RefConv

@[expose] public section

set_option maxRecDepth 16384

noncomputable section

open scoped BigOperators

namespace Cert.Proof.Ref

open Cert.ReferenceIdeal Cert.ReferenceIdeal.Gen
open Idealize.ShloMosaic Idealize.ShloMosaic.TcCoe Idealize.ShloMosaic.StableHlo Idealize.SL.Sem

variable (V : Valuation τ sig (Elt Ideal))

/-- The row table of the stretch: every row is its own. -/
theorem row_tab : ∀ i : Fin 64, (IntOp.divsi .host (IntOp.muli (BitVec.ofNat 32 i.val) 64#32) 64#32).toInt.toNat = i.val := by
  decide +kernel

/-- The column table of the stretch. -/
theorem col_tab : ∀ j : Fin 1407,
    (IntOp.divsi .host (IntOp.muli (BitVec.ofNat 32 j.val) 1404#32) 1407#32).toInt.toNat = j.val * 1404 / 1407 := by
  decide +kernel

/-- After the stretch. -/
theorem stage5 (n : Fin 8) (c : Fin 64) (i : Fin 64) (j : Fin 1407) :
    (after (ops5 (F := Ideal)) V (Proc.devRef .tc main_v143) : (⟨4, ![8, 64, 64, 1407]⟩ : Shape).Idx → EReal) (ix4 n c i j)
      = stretched (rd4 (V (Proc.devRef .tc main_v131))) n c i j := by
  unfold ops5
  after_reads_simp
  simp -implicitDefEqProofs only [TRef.toBuf, TRef.ofBuf, cast_cast, cast_eq]
  have hj : j.val * 1404 / 1407 < 1404 := by omega
  refine (gather_one _ 3 rfl rfl rfl _ _ _ (ix4 n c i ⟨j.val * 1404 / 1407, hj⟩) ?_ (ix2 j 0) ?_ ?_).trans
    ((gather_one _ 2 rfl rfl rfl _ _ _ (ix4 n c i ⟨j.val * 1404 / 1407, hj⟩) ?_ (ix2 i 0) ?_ ?_).trans
      (at4 (V (Proc.devRef .tc main_v131)) _ _ _ _))
  · intro a ha
    match a with
    | ⟨0, _⟩ => rfl
    | ⟨1, _⟩ => rfl
    | ⟨2, _⟩ => rfl
    | ⟨3, _⟩ => exact absurd rfl ha
  · funext b; refine Fin.ext ?_
    match b with
    | ⟨0, _⟩ => rfl
    | ⟨1, _⟩ => rfl
  · show min (IntOp.divsi .host (IntOp.muli (BitVec.ofNat 32 j.val) 1404#32) 1407#32).toInt.toNat 1403 = j.val * 1404 / 1407
    rw [col_tab]; omega
  · intro a ha
    match a with
    | ⟨0, _⟩ => rfl
    | ⟨1, _⟩ => rfl
    | ⟨2, _⟩ => exact absurd rfl ha
    | ⟨3, _⟩ => rfl
  · funext b; refine Fin.ext ?_
    match b with
    | ⟨0, _⟩ => rfl
    | ⟨1, _⟩ => rfl
  · show min (IntOp.divsi .host (IntOp.muli (BitVec.ofNat 32 i.val) 64#32) 64#32).toInt.toNat 63 = i.val
    rw [row_tab]; omega

/-! ## The rounds -/

/-- The number of elements, as the constant holds it. -/
theorem count_val : Ideal.ofBits .f32 0x492FE000#32 = ((720384 : ℝ) : EReal) := by
  simp [Ideal.ofBits, Ideal.ieee]
  rw [← EReal.coe_mul]; norm_num

/-- The loss before any round. -/
theorem inf_val : Ideal.ofBits .f32 0x7F800000#32 = ⊤ := by
  simp [Ideal.ofBits, Ideal.ieee]

/-- A sum of reals among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of real squares over the count is below `⊤`. -/
theorem loss_lt {ι : Type} [Fintype ι] (r x : ι → EReal) (hr : ∀ i, ∃ a : ℝ, r i = a) (hx : ∀ i, ∃ a : ℝ, x i = a) :
    Ideal.div (0 + ∑ i, (r i - x i) * (r i - x i)) (Ideal.ofBits .f32 0x492FE000#32) < ⊤ := by
  choose a ha using hr
  choose b hb using hx
  have h : ∀ i, (r i - x i) * (r i - x i) = (((a i - b i) * (a i - b i) : ℝ) : EReal) := fun i => by
    rw [ha, hb, ← EReal.coe_sub, ← EReal.coe_mul]
  rw [count_val, Finset.sum_congr rfl fun i _ => h i, ← coe_sum, zero_add, Ideal.div, if_neg (by norm_num), ← EReal.coe_inv,
    ← EReal.coe_mul]
  exact EReal.coe_lt_top _

/-- A vector chosen by one bit that is set. -/
theorem select_set {s : Shape} (p : IVec ⟨0, ![]⟩ 1) (hb : (⟨0, ![]⟩ : Shape).BroadcastsInDim s ![]) (a b : s.Idx → EReal)
    (h : p ix0 = 1#1) : select (broadcastInDim s ![] hb p) a b = a := by
  funext i
  show Scalar.select (broadcastInDim s ![] hb p i) (a i) (b i) = a i
  have : broadcastInDim s ![] hb p i = p ix0 := congrArg p (funext fun q => q.elim0)
  rw [this, h]; rfl

/-- A vector chosen by a bit between equal ones. -/
theorem select_same {s : Shape} (p : IVec s 1) (a : s.Idx → EReal) : select p a a = a := by
  funext i
  show Scalar.select (p i) (a i) (a i) = a i
  unfold Scalar.select; split <;> rfl

/-- Three rounds of which the first takes `a`. -/
theorem keep3 {s : Shape} (p q r : IVec ⟨0, ![]⟩ 1) (hb : (⟨0, ![]⟩ : Shape).BroadcastsInDim s ![]) (a z : s.Idx → EReal)
    (h : p ix0 = 1#1) :
    select (broadcastInDim s ![] hb r) a (select (broadcastInDim s ![] hb q) a (select (broadcastInDim s ![] hb p) a z)) = a := by
  rw [select_set p hb a z h, select_same, select_same]

/-- The first round's bit: the loss is below `⊤`. -/
theorem first_bit (r x : (⟨4, ![8, 1, 64, 1407]⟩ : Shape).Idx → EReal) (hr : ∀ i, ∃ a : ℝ, r i = a) (hx : ∀ i, ∃ a : ℝ, x i = a) :
    cmpf (F := Ideal) (φ := .f32) .olt
      (Host.divf (Host.reduceAdd (mulf (F := Ideal) (φ := .f32) (subf r x) (subf r x)) (constant S_ .f32 0x00000000#32)
        reducesTo_S8x1x64x1407_S_d0_1_2_3 h_S_) (constant S_ .f32 0x492FE000#32)) (constant S_ .f32 0x7F800000#32) ix0 = 1#1 := by
  pointwise
  rw [Ideal.hostReduceAdd_total _ (fun b => b.elim0), inf_val]
  exact congrArg BitVec.ofBool (decide_eq_true (loss_lt r x hr hx))

/-- After the rounds, for a real input and a real reconstruction: the reconstruction. -/
theorem stage7 (r x : (⟨4, ![8, 1, 64, 1407]⟩ : Shape).Idx → EReal) (hr : ∀ i, ∃ a : ℝ, r i = a) (hx : ∀ i, ∃ a : ℝ, x i = a)
    (h1 : V (Proc.devRef .tc main_v171) = r) (h2 : V (Proc.devRef .tc main_arg0) = x) :
    after (ops7 (F := Ideal)) V (Proc.devRef .tc main_v192) = r := by
  unfold ops7
  after_reads_simp
  simp -implicitDefEqProofs only [TRef.toBuf, TRef.ofBuf, cast_cast, cast_eq]
  rw [h1, h2]
  exact keep3 (s := S8x1x64x1407) _ _ _ bcast_S_S8x1x64x1407 r _ (first_bit r x hr hx)

end Cert.Proof.Ref
-- ==== Proof.RefVq.lean ====
/-
  The reference's quantiser: every point's vector of channels becomes the first nearest codebook row.
-/
module

public import proofs.«01_k».proof.Proof.RefTail

@[expose] public section

set_option maxRecDepth 16384

noncomputable section

open scoped BigOperators

namespace Cert.Proof.Ref

open Cert.ReferenceIdeal Cert.ReferenceIdeal.Gen
open Idealize.ShloMosaic Idealize.ShloMosaic.TcCoe Idealize.ShloMosaic.StableHlo Idealize.SL.Sem

/-! ## The arg-min fold -/

/-- Pairs of value and index word in the order the arg-min keeps: smaller value, then smaller index. -/
def Le (a b : EReal × BitVec 32) : Prop := a.1 < b.1 ∨ (a.1 = b.1 ∧ a.2.toInt ≤ b.2.toInt)

theorem Le.refl (a : EReal × BitVec 32) : Le a a := Or.inr ⟨rfl, le_refl _⟩

theorem Le.trans {a b c : EReal × BitVec 32} (h : Le a b) (h' : Le b c) : Le a c := by
  unfold Le at *
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

/-- The body keeps one of its arguments, below both. -/
theorem body_spec (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  obtain ⟨a1, a2⟩ := a
  obtain ⟨b1, b2⟩ := b
  have hbody : reducer_argmin_f32_i32 (F := Ideal) (a1, a2) (b1, b2)
      = if a1 < b1 then (a1, a2) else if a1 = b1 ∧ a2.toInt < b2.toInt then (a1, a2) else (b1, b2) := by
    unfold reducer_argmin_f32_i32
    simp only [Ideal.cmpf_def, Ideal.cmp, IntOp.ori, IntOp.andi, IntOp.cmpi, Scalar.select]
    by_cases h1 : a1 < b1
    · simp [h1]
      intro hc
      exact absurd (by generalize (decide (a1 = b1) && a2.slt b2) = q; cases q <;> rfl) hc
    · by_cases h2 : a1 = b1
      · subst h2
        by_cases h3 : a2.toInt < b2.toInt
        · simp [h3, BitVec.slt]
        · simp [h3, BitVec.slt]
      · simp [h1, h2]
  rw [hbody]
  by_cases h1 : a1 < b1
  · rw [if_pos h1]; exact ⟨Or.inl rfl, Le.refl _, Or.inl h1⟩
  · rw [if_neg h1]
    by_cases h2 : a1 = b1 ∧ a2.toInt < b2.toInt
    · rw [if_pos h2]; exact ⟨Or.inl rfl, Le.refl _, Or.inr ⟨h2.1, le_of_lt h2.2⟩⟩
    · rw [if_neg h2]
      refine ⟨Or.inr rfl, ?_, Le.refl _⟩
      rcases lt_or_eq_of_le (not_lt.mp h1) with h | h
      · exact Or.inl h
      · exact Or.inr ⟨h, by by_contra hc; exact h2 ⟨h.symm, not_le.mp hc⟩⟩

/-- The fold keeps its start or an element, below all of them. -/
theorem fold_spec {ι : Type} (g : ι → EReal × BitVec 32) (L : List ι) (a : EReal × BitVec 32) :
    (L.foldl (fun r n => reducer_argmin_f32_i32 (F := Ideal) r (g n)) a = a
        ∨ ∃ n ∈ L, L.foldl (fun r n => reducer_argmin_f32_i32 (F := Ideal) r (g n)) a = g n)
      ∧ Le (L.foldl (fun r n => reducer_argmin_f32_i32 (F := Ideal) r (g n)) a) a
      ∧ ∀ n ∈ L, Le (L.foldl (fun r n => reducer_argmin_f32_i32 (F := Ideal) r (g n)) a) (g n) := by
  induction L generalizing a with
  | nil => exact ⟨Or.inl rfl, Le.refl _, fun n h => absurd h List.not_mem_nil⟩
  | cons p L ih =>
    rw [List.foldl_cons]
    obtain ⟨h1, h2, h3⟩ := ih (reducer_argmin_f32_i32 (F := Ideal) a (g p))
    obtain ⟨b1, b2, b3⟩ := body_spec a (g p)
    refine ⟨?_, h2.trans b2, fun n hn => ?_⟩
    · rcases h1 with h1 | ⟨n, hn, h1⟩
      · rcases b1 with b1 | b1
        · exact Or.inl (h1.trans b1)
        · exact Or.inr ⟨p, List.mem_cons_self, h1.trans b1⟩
      · exact Or.inr ⟨n, List.mem_cons_of_mem _ hn, h1⟩
    · rcases List.mem_cons.mp hn with rfl | hn
      · exact h2.trans b3
      · exact h3 n hn

/-- The words of small numbers, read back. -/
theorem toInt_small {k : ℕ} (h : k < 2 ^ 31) : (BitVec.ofNat 32 k).toInt = k := by
  rw [BitVec.toInt_eq_toNat_of_lt] <;> rw [BitVec.toNat_ofNat, Nat.mod_eq_of_lt (by omega)]
  omega

/-- The arg-min over the last axis of `[8, 5616, 512]`: the first row with the smallest value. -/
theorem argmin_spec (D : (⟨3, ![8, 5616, 512]⟩ : Shape).Idx → EReal) (d : ℕ → EReal) (n : Fin 8) (t : Fin 5616)
    (hd : ∀ k : Fin 512, D (ix3 n t k) = d k) :
    IsFirstMin 512 d (Host.argReduce (F := Ideal) (φ := .f32) reducer_argmin_f32_i32 D (iotaInDim S8x5616x512 32 2)
      (constant S_ .f32 0x7F800000#32) (constantI S_ 32 0#32) reducesTo_S8x5616x512_S8x5616_d2 h_S_ (ix2 n t)).2.toInt.toNat := by
  rw [Ideal.argReduce_eq_reduce2, Host.reduce2]
  have hmem : ∀ k : Fin 512, (S8x5616x512.rowMajor (ix3 n t k)) ∈ (List.finRange S8x5616x512.numel).filter fun p =>
      reducesTo_S8x5616x512_S8x5616_d2.drop (S8x5616x512.rowMajor.symm p) = ix2 n t := fun k => by
    rw [List.mem_filter]
    refine ⟨List.mem_finRange _, ?_⟩
    rw [Equiv.symm_apply_apply, decide_eq_true_eq]
    funext b
    match b with
    | ⟨0, _⟩ => rfl
    | ⟨1, _⟩ => rfl
  have hval : ∀ p ∈ (List.finRange S8x5616x512.numel).filter fun p =>
      reducesTo_S8x5616x512_S8x5616_d2.drop (S8x5616x512.rowMajor.symm p) = ix2 n t,
      ∃ k : Fin 512, S8x5616x512.rowMajor.symm p = ix3 n t k := fun p hp => by
    have h := of_decide_eq_true (List.mem_filter.mp hp).2
    refine ⟨S8x5616x512.rowMajor.symm p 2, ?_⟩
    have h0 := congrFun h 0
    have h1 := congrFun h 1
    rw [← ix3_eta (S8x5616x512.rowMajor.symm p)]
    generalize S8x5616x512.rowMajor.symm p = q at h0 h1 ⊢
    have e0 : q 0 = n := h0
    have e1 : q 1 = t := h1
    rw [e0, e1]; rfl
  obtain ⟨h1, h2, h3⟩ := fold_spec (fun p => (D (S8x5616x512.rowMajor.symm p), iotaInDim S8x5616x512 32 2 (S8x5616x512.rowMajor.symm p)))
    ((List.finRange S8x5616x512.numel).filter fun p =>
      reducesTo_S8x5616x512_S8x5616_d2.drop (S8x5616x512.rowMajor.symm p) = ix2 n t)
    (constant (F := Ideal) S_ .f32 0x7F800000#32 (Shape.Idx.first h_S_), constantI S_ 32 0#32 (Shape.Idx.first h_S_))
  generalize hr : List.foldl _ _ _ = r at h1 h2 h3 ⊢
  have h3' : ∀ k : Fin 512, Le r (d k, BitVec.ofNat 32 k) := fun k => by
    have := h3 _ (hmem k)
    simp only [Equiv.symm_apply_apply] at this
    rw [hd] at this
    exact this
  have h1' : ∃ k : Fin 512, r = (d k, BitVec.ofNat 32 k) := by
    rcases h1 with h1 | ⟨p, hp, h1⟩
    · have h0 := h3' 0
      have htop : r = (⊤, 0#32) := by rw [h1]; exact congrArg (·, 0#32) inf_val
      refine ⟨0, ?_⟩
      rw [htop] at h0 ⊢
      rcases h0 with h0 | ⟨h0, -⟩
      · exact absurd h0 not_top_lt
      · exact Prod.ext h0 rfl
    · obtain ⟨k, hk⟩ := hval p hp
      refine ⟨k, ?_⟩
      rw [h1, hk, hd]
      rfl
  obtain ⟨i, hi⟩ := h1'
  rw [hi]
  have hii : (BitVec.ofNat 32 i.val).toInt.toNat = i.val := by rw [toInt_small (by omega)]; rfl
  show IsFirstMin 512 d (BitVec.ofNat 32 i.val).toInt.toNat
  rw [hii]
  refine ⟨i.isLt, fun k hk => ?_⟩
  have := h3' ⟨k, hk⟩
  rw [hi] at this
  rcases this with h | ⟨h, h'⟩
  · exact ⟨le_of_lt h, fun _ => h⟩
  · refine ⟨le_of_eq h, fun hlt => ?_⟩
    dsimp only at h'
    rw [toInt_small (by omega), toInt_small (by omega)] at h'
    omega

/-! ## The stage -/

variable (V : Valuation τ sig (Elt Ideal))

/-- After the quantiser. -/
theorem stage2 (n : Fin 8) (c : Fin 64) (i : Fin 16) (j : Fin 351) :
    (after (ops2 (F := Ideal)) V (Proc.devRef .tc main_v73) : (⟨4, ![8, 64, 16, 351]⟩ : Shape).Idx → EReal) (ix4 n c i j)
      = quantised (rd2 (V (Proc.devRef .tc main_arg5))) (rd4 (V (Proc.devRef .tc main_v53))) n c i j := by
  unfold ops2
  after_reads_simp
  simp -implicitDefEqProofs only [TRef.toBuf, TRef.ofBuf, cast_cast, cast_eq]
  generalize hD : Host.gather _ _ _ = D
  pointwise
  rw [← hD]
  generalize hA : subf (F := Ideal) (φ := .f32) (s := S8x5616x512) _ _ = A
  have hA' : ∀ k : Fin 512, A (ix3 n ⟨i.val * 351 + j.val, by omega⟩ k)
      = dist (rd2 (V (Proc.devRef .tc main_arg5))) (fun c => rd4 (V (Proc.devRef .tc main_v53)) n c i j) k := fun k => by
    rw [← hA]
    pointwise
    have e1 : (i.val * 351 + j.val) / 351 = i.val := by omega
    have e2 : (i.val * 351 + j.val) % 351 = j.val := by omega
    simp only [at4 (V (Proc.devRef .tc main_v53)), at2 (V (Proc.devRef .tc main_arg5)), e1, e2]
    rfl
  have hm := argmin_spec A _ n _ hA'
  generalize hR : (fun j => (Host.argReduce (F := Ideal) (φ := .f32) reducer_argmin_f32_i32 A (iotaInDim S8x5616x512 32 2)
      (constant S_ .f32 0x7F800000#32) (constantI S_ 32 0#32) reducesTo_S8x5616x512_S8x5616_d2 h_S_ j).2) = R
  have hRt : (Host.argReduce (F := Ideal) (φ := .f32) reducer_argmin_f32_i32 A (iotaInDim S8x5616x512 32 2)
      (constant S_ .f32 0x7F800000#32) (constantI S_ 32 0#32) reducesTo_S8x5616x512_S8x5616_d2 h_S_
      (ix2 n ⟨i.val * 351 + j.val, by omega⟩)).2 = R (ix2 n ⟨i.val * 351 + j.val, by omega⟩) := by rw [← hR]
  rw [hRt] at hm
  refine (gather_one _ 0 rfl rfl rfl _ _ _ (ix2 ⟨_, hm.1⟩ c) ?_ (ix3 n ⟨i.val * 351 + j.val, by omega⟩ 0) ?_ ?_).trans ?_
  · intro a ha
    match a with
    | ⟨0, _⟩ => exact absurd rfl ha
    | ⟨1, _⟩ => rfl
  · funext b; refine Fin.ext ?_
    match b with
    | ⟨0, _⟩ => rfl
    | ⟨1, _⟩ => rfl
    | ⟨2, _⟩ => rfl
  · have h511 : ∀ q : ℕ, q < 512 → min q (512 - 1) = q := by omega
    have hb : ∀ X : IVec S8x5616 32, broadcastInDim S8x5616x1 ![0, 1] bcast_S8x5616_S8x5616x1_0_1 X
        (ix3 n ⟨i.val * 351 + j.val, by omega⟩ 0) = X (ix2 n ⟨i.val * 351 + j.val, by omega⟩) := fun X => by pointwise
    rw [hb]
    exact h511 _ hm.1
  · rw [at2 (V (Proc.devRef .tc main_arg5)), quantised, nearest_eq hm]

end Cert.Proof.Ref
-- ==== Proof.RV.lean ====
/-
  The reference's result: its stages as planes of the network, and the image it returns when the input is real.
-/
module

public import proofs.«01_k».proof.Proof.Net
public import proofs.«01_k».proof.Proof.RefTail
public import proofs.«01_k».proof.Proof.RefVq

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (d : Dev nD)

/-- The reference's arguments. -/
def args : Args where
  x := rd4 (m ((d.tc : Thread nD τ).loc main_arg0) : (⟨4, ![8, 1, 64, 1407]⟩ : Shape).Idx → EReal)
  w1 := rd4 (m ((d.tc : Thread nD τ).loc main_arg1) : (⟨4, ![128, 1, 4, 4]⟩ : Shape).Idx → EReal)
  b1 := rd1 (m ((d.tc : Thread nD τ).loc main_arg2) : (⟨1, ![128]⟩ : Shape).Idx → EReal)
  w2 := rd4 (m ((d.tc : Thread nD τ).loc main_arg3) : (⟨4, ![64, 128, 4, 4]⟩ : Shape).Idx → EReal)
  b2 := rd1 (m ((d.tc : Thread nD τ).loc main_arg4) : (⟨1, ![64]⟩ : Shape).Idx → EReal)
  cb := rd2 (m ((d.tc : Thread nD τ).loc main_arg5) : (⟨2, ![512, 64]⟩ : Shape).Idx → EReal)
  wd1 := rd4 (m ((d.tc : Thread nD τ).loc main_arg6) : (⟨4, ![64, 128, 4, 4]⟩ : Shape).Idx → EReal)
  bd1 := rd1 (m ((d.tc : Thread nD τ).loc main_arg7) : (⟨1, ![128]⟩ : Shape).Idx → EReal)
  wd2 := rd4 (m ((d.tc : Thread nD τ).loc main_arg8) : (⟨4, ![128, 64, 4, 4]⟩ : Shape).Idx → EReal)
  bd2 := rd1 (m ((d.tc : Thread nD τ).loc main_arg9) : (⟨1, ![64]⟩ : Shape).Idx → EReal)
  wo := rd4 (m ((d.tc : Thread nD τ).loc main_arg10) : (⟨4, ![1, 64, 3, 3]⟩ : Shape).Idx → EReal)
  bo := rd1 (m ((d.tc : Thread nD τ).loc main_arg11) : (⟨1, ![1]⟩ : Shape).Idx → EReal)

theorem plane1 (n o i j : ℕ) (hn : n < 8) (ho : o < 128) (hi : i < 32) (hj : j < 703) :
    rd4 (R1 m d (Proc.devRef .tc main_v26) : (⟨4, ![8, 128, 32, 703]⟩ : Shape).Idx → EReal) n o i j = (args m d).z1 n o i j := by
  rw [rd4_of _ hn ho hi hj]
  exact stage0 (R0 m d) ⟨n, hn⟩ ⟨o, ho⟩ ⟨i, hi⟩ ⟨j, hj⟩

theorem plane2 (n o i j : ℕ) (hn : n < 8) (ho : o < 64) (hi : i < 16) (hj : j < 351) :
    rd4 (R2 m d (Proc.devRef .tc main_v53) : (⟨4, ![8, 64, 16, 351]⟩ : Shape).Idx → EReal) n o i j = (args m d).z2 n o i j := by
  rw [rd4_of _ hn ho hi hj]
  refine (stage1 (R1 m d) ⟨n, hn⟩ ⟨o, ho⟩ ⟨i, hi⟩ ⟨j, hj⟩).trans ?_
  rw [(R8_args m d main_arg3 (by decide)).1, (R8_args m d main_arg4 (by decide)).1]
  exact convRelu_congr fun c a b => padded_congr (fun i hi j hj => plane1 m d n c i j hn c.isLt hi hj) a b

theorem plane3 (n c i j : ℕ) (hn : n < 8) (hc : c < 64) (hi : i < 16) (hj : j < 351) :
    rd4 (R3 m d (Proc.devRef .tc main_v73) : (⟨4, ![8, 64, 16, 351]⟩ : Shape).Idx → EReal) n c i j = (args m d).zq n c i j := by
  rw [rd4_of _ hn hc hi hj]
  refine (stage2 (R2 m d) ⟨n, hn⟩ ⟨c, hc⟩ ⟨i, hi⟩ ⟨j, hj⟩).trans ?_
  rw [(R8_args m d main_arg5 (by decide)).2.1]
  unfold Args.zq quantised
  rw [nearest_congr fun k hk => plane2 m d n k i j hn hk hi hj]
  rfl

theorem plane4 (n o i j : ℕ) (hn : n < 8) (ho : o < 128) (hi : i < 32) (hj : j < 702) :
    rd4 (R4 m d (Proc.devRef .tc main_v102) : (⟨4, ![8, 128, 32, 702]⟩ : Shape).Idx → EReal) n o i j = (args m d).h1 n o i j := by
  rw [rd4_of _ hn ho hi hj]
  refine (stage3 (R3 m d) ⟨n, hn⟩ ⟨o, ho⟩ ⟨i, hi⟩ ⟨j, hj⟩).trans ?_
  rw [(R8_args m d main_arg6 (by decide)).2.2.1, (R8_args m d main_arg7 (by decide)).2.2.1]
  exact convRelu_congr fun c a b => dilated_congr (fun i hi j hj => plane3 m d n c i j hn c.isLt hi hj) a b

theorem plane5 (n o i j : ℕ) (hn : n < 8) (ho : o < 64) (hi : i < 64) (hj : j < 1404) :
    rd4 (R5 m d (Proc.devRef .tc main_v131) : (⟨4, ![8, 64, 64, 1404]⟩ : Shape).Idx → EReal) n o i j = (args m d).h2 n o i j := by
  rw [rd4_of _ hn ho hi hj]
  refine (stage4 (R4 m d) ⟨n, hn⟩ ⟨o, ho⟩ ⟨i, hi⟩ ⟨j, hj⟩).trans ?_
  rw [(R8_args m d main_arg8 (by decide)).2.2.2.1, (R8_args m d main_arg9 (by decide)).2.2.2.1]
  exact convRelu_congr fun c a b => dilated_congr (fun i hi j hj => plane4 m d n c i j hn c.isLt hi hj) a b

theorem plane6 (n c i j : ℕ) (hn : n < 8) (hc : c < 64) (hi : i < 64) (hj : j < 1407) :
    rd4 (R6 m d (Proc.devRef .tc main_v143) : (⟨4, ![8, 64, 64, 1407]⟩ : Shape).Idx → EReal) n c i j = stretched (args m d).h2 n c i j := by
  rw [rd4_of _ hn hc hi hj]
  refine (stage5 (R5 m d) ⟨n, hn⟩ ⟨c, hc⟩ ⟨i, hi⟩ ⟨j, hj⟩).trans ?_
  exact plane5 m d n c i _ hn hc hi (by show j * 1404 / 1407 < 1404; omega)

/-- The reconstruction. -/
theorem recon (n : Fin 8) (o : Fin 1) (i : Fin 64) (j : Fin 1407) :
    (R7 m d (Proc.devRef .tc main_v171) : (⟨4, ![8, 1, 64, 1407]⟩ : Shape).Idx → EReal) (ix4 n o i j) = (args m d).out n o i j := by
  refine (stage6 (R6 m d) n o i j).trans ?_
  rw [(R8_args m d main_arg10 (by decide)).2.2.2.2.2.1, (R8_args m d main_arg11 (by decide)).2.2.2.2.2.1]
  exact congrArg Ideal.tanh (convRelu_congr fun c a b => padded_congr (fun i hi j hj => plane6 m d n c i j n.isLt c.isLt hi hj) a b)

/-- A hyperbolic tangent is real. -/
theorem tanh_real (x : EReal) : ∃ a : ℝ, Ideal.tanh x = a := by
  induction x using EReal.rec with
  | bot => exact ⟨-1, rfl⟩
  | top => exact ⟨1, rfl⟩
  | coe r => exact ⟨Real.tanh r, rfl⟩

/-- The reference's result, for a real image. -/
theorem result (x : (⟨4, ![8, 1, 64, 1407]⟩ : Shape).Idx → EReal) (hm : m ((d.tc : Thread nD τ).loc main_arg0) = x)
    (hx : ∀ i, ∃ a : ℝ, x i = a) (n : Fin 8) (o : Fin 1) (i : Fin 64) (j : Fin 1407) :
    (R8 m d (Proc.devRef .tc main_v192) : (⟨4, ![8, 1, 64, 1407]⟩ : Shape).Idx → EReal) (ix4 n o i j) = (args m d).out n o i j := by
  refine (congrFun (stage7 (R7 m d) (R7 m d (Proc.devRef .tc main_v171)) x (fun y => ?_) hx rfl
    ((R8_args m d main_arg0 (by decide)).2.2.2.2.2.2.1.trans hm)) _).trans (recon m d n o i j)
  obtain ⟨a, b, e, f, rfl⟩ : ∃ a b e f, y = ix4 a b e f := ⟨y 0, y 1, y 2, y 3, (ix4_eta y).symm⟩
  obtain ⟨t, ht⟩ := tanh_real (convRelu 64 3 1 (args m d).wo (args m d).bo (padded 64 1407 (stretched (args m d).h2)) a b e f)
  exact ⟨t, (recon m d a b e f).trans ht⟩

end Cert.Proof.Ref

end
-- ==== Proof.KRun.lean ====
/-
  The run of the idealised kernel read at its result: every final state holds, in the result's buffer, the contents
  after the last stretch of host operations (`W31`), and the arguments as launched.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the proof, as a type. -/
local notation "𝕄" => MT nD τ sig Unit (Elt F) ℕ (UR sig nD τ) ℕ

set_option backward.isDefEq.respectTransparency.types false in
/-- The launch over the segments, as for the frame, with the result's buffer read as well. -/
theorem run_value (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_v261) = W31 m ρ c (Proc.devRef .tc main_v261)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h _ c =>
      ⟨h c _ (mem_uc main_v261 (by decide)),
       (h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c),
       (h c _ (mem_uc main_arg7 (by decide))).trans (W31_main_arg7 m ρ c),
       (h c _ (mem_uc main_arg8 (by decide))).trans (W31_main_arg8 m ρ c),
       (h c _ (mem_uc main_arg9 (by decide))).trans (W31_main_arg9 m ρ c),
       (h c _ (mem_uc main_arg10 (by decide))).trans (W31_main_arg10 m ρ c),
       (h c _ (mem_uc main_arg11 (by decide))).trans (W31_main_arg11 m ρ c)⟩)

end Cert.KernelIdeal.Gen

end
-- ==== Proof.K0.lean ====
/-
  The first call: a matrix of patches times a matrix of weights, then a bias and a relu.
-/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.K0

open Cert.KernelIdeal Cert.KernelIdeal.Gen
open Idealize.ShloMosaic Idealize.ShloMosaic.TcCoe Idealize.SL.Sem
open Idealize.ShloMosaic.Pipeline (Dat)

/-- What one block computes, at row `i` and channel `o`. -/
theorem block (a : Vec Ideal S5624x16 .f32) (b : Vec Ideal S16x128 .f32) (c : Vec Ideal S1x128 .f32)
    (i : Fin 5624) (o : Fin 128) :
    k0_pay1 (F := Ideal) a b c (ix2 i o)
      = max (∑ k : Fin 16, a (ix2 i k) * b (ix2 k o) + c (ix2 0 o)) 0 := by
  pointwise [k0_pay1]

/-- The windows' block indices. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

variable (V : (c : Dev nD) → (b : Ref sig .tc) → Buf (Elt Ideal) ((c : Thread nD τ).loc b))

/-- The result's array after the call, from the three arrays it reads. -/
def G (P : FVec Ideal S179968x16 .f32) (W : FVec Ideal S16x128 .f32) (b : FVec Ideal S1x128 .f32) :
    FVec Ideal S179968x128 .f32 := fun i =>
  max (∑ k : Fin 16, P (ix2 (i 0) k) * W (ix2 k (i 1)) + b (ix2 0 (i 1))) 0

/-- A block's element is the result's at the block's place. -/
theorem point (c : Dev nD) (t : Fin cfg0.N) (y : S5624x128.Idx) :
    k0_pay1 (F := Ideal) (iblk0 V c 0 t) (iblk0 V c 1 t) (iblk0 V c 2 t) y
      = G (V c main_v35) (V c main_v37) (V c main_v38) (((cfg0.win 3).blk t).view.emb y) := by
  obtain ⟨i, o, rfl⟩ : ∃ (i : Fin 5624) (o : Fin 128), y = ix2 i o := ⟨y 0, y 1, (ix2_eta y).symm⟩
  refine (block _ _ _ i o).trans ?_
  unfold G
  blk_point [iblk0, idx t]

/-- The call's result. -/
theorem final (c : Dev nD) :
    (dat0 V c).arrAt 3 cfg0.N = G (V c main_v35) (V c main_v37) (V c main_v38) := by
  refine (dat0 V c).arrAt_eq_of_covers 3 _ (by decide +kernel) fun t hf y => ?_
  blk_simp
  rw [after0_3]; frame_out
  exact point V c t y

end Cert.Proof.K0
-- ==== Proof.K1.lean ====
/-
  The second call: sixteen taps of a strided convolution, a bias and a relu.
-/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.K1

open Cert.KernelIdeal Cert.KernelIdeal.Gen
open Idealize.ShloMosaic Idealize.ShloMosaic.TcCoe Idealize.SL.Sem
open Idealize.ShloMosaic.Pipeline (Dat)

/-- The windows' block indices. -/
theorem idx : ∀ t : Fin cfg1.N, win1_0.index t = ![t.val/2, t.val%2, 0,0,0,0] ∧ win1_1.index t = ![0, 0,0]
    ∧ win1_2.index t = ![0, 0] ∧ win1_3.index t = ![t.val/2, t.val%2,0,0,0] :=
  (by decide +kernel : ∀ t : Fin grid1.N, _)

/-- What one block computes, at row `i`, column `j` and channel `o`. -/
theorem block (x0 : Vec Ideal S1x1x4x9x353x128 .f32) (x1 : Vec Ideal S16x128x64 .f32) (x2 : Vec Ideal S1x64 .f32)
    (i : Fin 8) (j : Fin 351) (o : Fin 64) :
    out1_3 (F := Ideal) x0 x1 x2 (ix5 0 0 i j o)
      = max (∑ kh : Fin 4, ∑ kw : Fin 4, ∑ c : Fin 128,
          x0 (ix6 0 0 ⟨(kh : ℕ) % 2 * 2 + (kw : ℕ) % 2, by omega⟩ ⟨i + kh / 2, by omega⟩ ⟨j + kw / 2, by omega⟩ c)
            * x1 (ix3 ⟨(kh : ℕ) * 4 + kw, by omega⟩ c o) + x2 (ix2 0 o)) 0 := by
  frame_out
  simp only [Fin.sum_univ_four]
  pointwise [k1_pay1,k1_pay2,k1_pay3,k1_pay4,k1_pay5,k1_pay6,k1_pay7,k1_pay8,k1_pay9]
  simp only [Nat.add_comm 1, ← add_assoc]

variable (V : (c : Dev nD) → (b : Ref sig .tc) → Buf (Elt Ideal) ((c : Thread nD τ).loc b))

/-- The result at image `n`, band `q`, row `i`, column `j`, channel `o`. -/
def at' (P : FVec Ideal S8x2x4x9x353x128 .f32) (W : FVec Ideal S16x128x64 .f32) (b : FVec Ideal S1x64 .f32)
    (n : Fin 8) (q : Fin 2) (i : Fin 8) (j : Fin 351) (o : Fin 64) : EReal :=
  max (∑ kh : Fin 4, ∑ kw : Fin 4, ∑ c : Fin 128,
      P (ix6 n q ⟨(kh : ℕ) % 2 * 2 + (kw : ℕ) % 2, by omega⟩ ⟨i + kh / 2, by omega⟩ ⟨j + kw / 2, by omega⟩ c)
        * W (ix3 ⟨(kh : ℕ) * 4 + kw, by omega⟩ c o) + b (ix2 0 o)) 0

/-- The result's array after the call, from the three arrays it reads. -/
def G (P : FVec Ideal S8x2x4x9x353x128 .f32) (W : FVec Ideal S16x128x64 .f32) (b : FVec Ideal S1x64 .f32) :
    FVec Ideal S8x2x8x351x64 .f32 := fun y => at' P W b (y 0) (y 1) (y 2) (y 3) (y 4)

/-- A block's element is the result's at the block's place. -/
theorem point (c : Dev nD) (t : Fin cfg1.N) (y : S1x1x8x351x64.Idx) :
    out1_3 (F := Ideal) (iblk1 V c 0 t) (iblk1 V c 1 t) (iblk1 V c 2 t) y
      = G (V c main_v57) (V c main_v122) (V c main_v123) (((cfg1.win 3).blk t).view.emb y) := by
  obtain ⟨i, j, o, rfl⟩ : ∃ (i : Fin 8) (j : Fin 351) (o : Fin 64), y = ix5 0 0 i j o :=
    ⟨y 2, y 3, y 4, by rw [← ix5_eta y]; congr 1 <;> exact Subsingleton.elim (α := Fin 1) _ _⟩
  refine (block _ _ _ i j o).trans ?_
  unfold G at'
  blk_point [iblk1, idx t]

/-- The call's result. -/
theorem final (c : Dev nD) :
    (dat1 V c).arrAt 3 cfg1.N = G (V c main_v57) (V c main_v122) (V c main_v123) := by
  refine (dat1 V c).arrAt_eq_of_covers 3 _ (by decide +kernel) fun t hf y => ?_
  blk_simp
  rw [after1_3]
  exact point V c t y

end Cert.Proof.K1
-- ==== Proof.K2.lean ====
/-
  The third call: every row replaced by the codebook row nearest to it.
-/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.K2

open Cert.KernelIdeal Cert.KernelIdeal.Gen
open Idealize.ShloMosaic Idealize.ShloMosaic.TcCoe Idealize.SL.Sem
open Idealize.ShloMosaic.Pipeline (Dat)

/-! ## The first smallest of 512 values, by two minima -/

theorem toInt_small {k : ℕ} (h : k < 2 ^ 31) : (BitVec.ofNat 32 k).toInt = k := by
  rw [BitVec.toInt_eq_toNat_of_lt] <;> rw [BitVec.toNat_ofNat, Nat.mod_eq_of_lt (by omega)]
  omega

theorem minsi_toInt (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

/-- Some value is the first smallest. -/
theorem exists_first (d : ℕ → EReal) : ∃ i, IsFirstMin 512 d i := by
  classical
  obtain ⟨x, hx, hm⟩ := Finset.exists_min_image (Finset.range 512) d ⟨0, by simp⟩
  have hex : ∃ i, i < 512 ∧ ∀ k < 512, d i ≤ d k :=
    ⟨x, Finset.mem_range.mp hx, fun k hk => hm k (Finset.mem_range.mpr hk)⟩
  refine ⟨Nat.find hex, (Nat.find_spec hex).1, fun k hk => ⟨(Nat.find_spec hex).2 k hk, fun hlt => ?_⟩⟩
  by_contra hn
  exact Nat.find_min hex hlt ⟨hk, fun j hj => (not_lt.mp hn).trans ((Nat.find_spec hex).2 j hj)⟩

/-- The smallest row number whose value is at most the smallest value is the first smallest. -/
theorem pick (d : ℕ → EReal) (i : ℕ) (h : IsFirstMin 512 d i) :
    Finset.univ.fold IntOp.minsi (2147483647#32)
        (fun x : Fin 512 => if d x ≤ Finset.univ.fold min ⊤ (fun z : Fin 512 => d z) then BitVec.ofNat 32 x else 512#32)
      = BitVec.ofNat 32 i := by
  have hmin : Finset.univ.fold min ⊤ (fun z : Fin 512 => d z) = d i := by
    apply le_antisymm
    · exact (Finset.fold_min_le _).mpr (Or.inr ⟨⟨i, h.1⟩, Finset.mem_univ _, le_rfl⟩)
    · exact (Finset.le_fold_min _).mpr ⟨le_top, fun x _ => (h.2 x x.isLt).1⟩
  rw [hmin]
  apply BitVec.eq_of_toInt_eq
  have hi : (BitVec.ofNat 32 i).toInt = i := toInt_small (by have := h.1; omega)
  have e : (2147483647#32 : BitVec 32).toInt = 2147483647 := by decide
  rw [← Finset.fold_hom (op' := min) (m := BitVec.toInt) minsi_toInt, hi, e]
  have hx : ∀ x : Fin 512, (if d x ≤ d i then BitVec.ofNat 32 x else 512#32).toInt = if d x ≤ d i then (x : ℤ) else 512 := by
    intro x
    split
    · exact toInt_small (by omega)
    · rfl
  simp only [hx]
  apply le_antisymm
  · exact (Finset.fold_min_le _).mpr (Or.inr ⟨⟨i, h.1⟩, Finset.mem_univ _, by simp⟩)
  · refine (Finset.le_fold_min _).mpr ⟨?_, fun x _ => ?_⟩
    · have := h.1
      omega
    · split
      · rename_i hd
        by_contra hn
        exact absurd ((h.2 x x.isLt).2 (by omega)) (not_lt.mpr hd)
      · have := h.1; omega

/-- The product of a row with a single one in it picks the entry. -/
theorem pick_sum (f : Fin 512 → EReal) (i : Fin 512) :
    ∑ x : Fin 512, FloatOps.sitofp (F := Ideal) FTy.f32
        (BitVec.setWidth 32 (IntOp.cmpi CmpIPredicate.eq (BitVec.ofNat 32 x) (BitVec.ofNat 32 i))) * f x = f i := by
  rw [Finset.sum_eq_single i]
  · have e : BitVec.setWidth 32 (IntOp.cmpi CmpIPredicate.eq (BitVec.ofNat 32 i) (BitVec.ofNat 32 i)) = 1#32 := by
      simp [IntOp.cmpi]
    rw [e]
    show (((1#32 : BitVec 32).toInt : ℝ) : EReal) * f i = f i
    simp
  · intro x _ hx
    have hne : BitVec.ofNat 32 (x : ℕ) ≠ BitVec.ofNat 32 (i : ℕ) := by
      intro he
      have := congrArg BitVec.toNat he
      rw [BitVec.toNat_ofNat, BitVec.toNat_ofNat, Nat.mod_eq_of_lt (by omega), Nat.mod_eq_of_lt (by omega)] at this
      exact hx (Fin.ext this)
    have e : BitVec.setWidth 32 (IntOp.cmpi CmpIPredicate.eq (BitVec.ofNat 32 x) (BitVec.ofNat 32 i)) = 0#32 := by
      show BitVec.setWidth 32 (BitVec.ofBool (BitVec.ofNat 32 (x : ℕ) == BitVec.ofNat 32 (i : ℕ))) = 0#32
      rw [beq_eq_false_iff_ne.mpr hne]
      rfl
    rw [e]
    show (((0#32 : BitVec 32).toInt : ℝ) : EReal) * f x = 0
    simp
  · exact fun h => absurd (Finset.mem_univ _) h

/-- The windows' block indices. -/
theorem idx : ∀ t : Fin cfg2.N, win2_0.index t = ![t.val, 0] ∧ win2_1.index t = ![0, 0]
    ∧ win2_2.index t = ![0, 0] ∧ win2_3.index t = ![t.val, 0] :=
  (by decide +kernel : ∀ t : Fin grid2.N, _)

/-- What one block computes, at row `i` and channel `o`, when the codebook's transpose is given. -/
theorem block (x0 : Vec Ideal S1872x64 .f32) (x1 : Vec Ideal S64x512 .f32) (x2 : Vec Ideal S512x64 .f32)
    (i : Fin 1872) (o : Fin 64) (hT : ∀ (c : Fin 64) (k : Fin 512), x1 (ix2 c k) = x2 (ix2 k c)) :
    out2_3 (F := Ideal) x0 x1 x2 (ix2 i o)
      = rd2 x2 (nearest (rd2 x2) fun c => rd2 x0 i c) o := by
  obtain ⟨k, hk⟩ := exists_first (dist (rd2 x2) fun c => rd2 x0 i c)
  rw [nearest_eq hk, rd2_of x2 hk.1 o.isLt, ← pick_sum (fun x => x2 (ix2 x o)) ⟨k, hk.1⟩]
  frame_out
  pointwise [k2_pay1]
  simp only [hT]
  have hd : ∀ x : Fin 512, ∑ z, x0 (ix2 i z) * x0 (ix2 i z) + ∑ z, x2 (ix2 x z) * x2 (ix2 x z) -
      Ideal.ofBits FTy.f32 1073741824#32 * ∑ z, x0 (ix2 i z) * x2 (ix2 x z) = dist (rd2 x2) (fun c => rd2 x0 i c) x := by
    intro x
    unfold dist
    simp only [at2 x0, at2 x2]
  have hinf : Ideal.ofBits FTy.f32 2139095040#32 = ⊤ := by simp [Ideal.ofBits, Ideal.ieee]
  simp only [hd, hinf]
  rw [pick _ k hk]

variable (V : (c : Dev nD) → (b : Ref sig .tc) → Buf (Elt Ideal) ((c : Thread nD τ).loc b))

/-- The result's array after the call, from the rows and the codebook. -/
def G (Z : FVec Ideal S44928x64 .f32) (C : FVec Ideal S512x64 .f32) : FVec Ideal S44928x64 .f32 := fun y =>
  rd2 C (nearest (rd2 C) fun c => rd2 Z (y 0) c) (y 1)

/-- A block of the rows. -/
theorem blk0 (c : Dev nD) (t : Fin cfg2.N) (r k : ℕ) (h : r < 1872) :
    rd2 (a := 1872) (b := 64) (iblk2 V c 0 t) r k = rd2 (a := 44928) (b := 64) (V c main_v125) (t.val * 1872 + r) k := by
  have ht : t.val < 24 := t.isLt
  unfold rd2
  by_cases hk : k < 64
  · rw [dif_pos ⟨h, hk⟩, dif_pos ⟨by omega, hk⟩]
    blk_ext [iblk2, idx t]
  · rw [dif_neg fun h' => hk h'.2, dif_neg fun h' => hk h'.2]

/-- Where a block's element lies in the result's array. -/
theorem place (t : Fin cfg2.N) (y : S1872x64.Idx) :
    ((((cfg2.win 3).blk t).view.emb y) 0 : ℕ) = t.val * 1872 + y 0 ∧ ((((cfg2.win 3).blk t).view.emb y) 1 : ℕ) = y 1 := by
  refine ⟨?_, ?_⟩ <;> blk_simp [idx t] <;> omega

/-- A block's element is the result's at the block's place. -/
theorem point (c : Dev nD) (hT : ∀ (k : Fin 64) (r : Fin 512),
      (V c main_v126 : S64x512.Idx → EReal) (ix2 k r) = (V c main_arg5 : S512x64.Idx → EReal) (ix2 r k))
    (t : Fin cfg2.N) (y : S1872x64.Idx) :
    out2_3 (F := Ideal) (iblk2 V c 0 t) (iblk2 V c 1 t) (iblk2 V c 2 t) y
      = G (V c main_v125) (V c main_arg5) (((cfg2.win 3).blk t).view.emb y) := by
  have e1 : (iblk2 V c 1 t : S64x512.Idx → EReal) = V c main_v126 := by
    funext j; blk_ext [iblk2, idx t]
  have e2 : (iblk2 V c 2 t : S512x64.Idx → EReal) = V c main_arg5 := by
    funext j; blk_ext [iblk2, idx t]
  rw [e1, e2]
  obtain ⟨i, o, rfl⟩ : ∃ (i : Fin 1872) (o : Fin 64), y = ix2 i o := ⟨y 0, y 1, (ix2_eta y).symm⟩
  refine (block _ _ _ i o hT).trans ?_
  obtain ⟨p0, p1⟩ := place t (ix2 i o)
  unfold G
  rw [p0, p1]
  simp only [fun k => blk0 V c t i k i.isLt]
  rfl

/-- The call's result. -/
theorem final (c : Dev nD) (hT : ∀ (k : Fin 64) (r : Fin 512),
      (V c main_v126 : S64x512.Idx → EReal) (ix2 k r) = (V c main_arg5 : S512x64.Idx → EReal) (ix2 r k)) :
    (dat2 V c).arrAt 3 cfg2.N = G (V c main_v125) (V c main_arg5) := by
  refine (dat2 V c).arrAt_eq_of_covers 3 _ (by decide +kernel) fun t hf y => ?_
  blk_simp
  rw [after2_3]
  exact point V c hT t y

end Cert.Proof.K2
-- ==== Proof.Stack.lean ====
/-
  Sixteen arrays of extent one along an axis, laid end to end along it, read at an index.
-/
module

public import proofs.«01_k».proof.Proof.Spec
public import Idealize.ShloMosaic.Lib.Pipeline.ValueKit

@[expose] public section

set_option maxRecDepth 16384

noncomputable section

namespace Cert.Proof

open Idealize.ShloMosaic

/-- Sixteen arrays of one shape. -/
def list16 {s : Shape} (u : Fin 16 → s.Idx → EReal) : List ((s : Shape) × (s.Idx → EReal)) :=
  [⟨s, u 0⟩, ⟨s, u 1⟩, ⟨s, u 2⟩, ⟨s, u 3⟩, ⟨s, u 4⟩, ⟨s, u 5⟩, ⟨s, u 6⟩, ⟨s, u 7⟩, ⟨s, u 8⟩, ⟨s, u 9⟩, ⟨s, u 10⟩,
    ⟨s, u 11⟩, ⟨s, u 12⟩, ⟨s, u 13⟩, ⟨s, u 14⟩, ⟨s, u 15⟩]

/-- At an index whose coordinate along the axis is `n`, the `n`-th array at the other coordinates. -/
theorem stack16 {t s : Shape} (a : Fin t.rank) (u : Fin 16 → s.Idx → EReal)
    (h : Shape.Concatenates ((list16 u).map (·.1)) t a) (hr : s.rank = t.rank) (h1 : s.size (a.cast hr.symm) = 1)
    (j : t.Idx) (n : Fin 16) (hn : (j a : ℕ) = n) (i : s.Idx)
    (hi : ∀ b, b.cast hr ≠ a → (i b : ℕ) = j (b.cast hr)) : concatenate t a (list16 u) h j = u n i := by
  have e : list16 u = List.ofFn fun n : Fin 16 => (⟨s, u n⟩ : (s : Shape) × (s.Idx → EReal)) := by rfl
  have h' : Shape.Concatenates ((List.ofFn fun n : Fin 16 => (⟨s, u n⟩ : (s : Shape) × (s.Idx → EReal))).map (·.1)) t a :=
    e ▸ h
  exact concatenate_ofFn_unit_apply a u h' hr h1 j n hn i hi

end Cert.Proof
-- ==== Proof.H0.lean ====
/-
  Before the first call: the image is padded, and its windows of sixteen are laid out as the rows of a matrix.
-/
module

public import proofs.«01_k».proof.Proof.Stack
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H0

open Cert.KernelIdeal Cert.KernelIdeal.Gen
open Idealize.ShloMosaic Idealize.ShloMosaic.TcCoe Idealize.ShloMosaic.StableHlo Idealize.SL.Sem

variable (V : Valuation τ sig (Elt Ideal))

theorem sitofp_zero : (FloatOps.sitofp (F := Ideal) .f32 (0#32) : EReal) = 0 := by
  show (((0#32 : BitVec 32).toInt : ℝ) : EReal) = 0
  simp

/-- The padded image. -/
theorem pad (n : Fin 8) (a : Fin 66) (b : Fin 1409) :
    (after hostOps0_1 (after hostOps0 V) (Proc.devRef .tc main_v1) : (⟨3, ![8, 66, 1409]⟩ : Shape).Idx → EReal) (ix3 n a b)
      = padded 64 1407 (rd4 (V (Proc.devRef .tc main_arg0) : (⟨4, ![8, 1, 64, 1407]⟩ : Shape).Idx → EReal)) n 0 a b := by
  unfold hostOps0_1 hostOps0
  after_reads_simp
  simp -implicitDefEqProofs only [TRef.toBuf, TRef.ofBuf, cast_cast, cast_eq]
  pointwise
  rw [sitofp_zero]
  simp only [at4 (V (Proc.devRef .tc main_arg0)), dite_eq_ite]
  rfl

theorem weights (k : Fin 16) (o : Fin 128) :
    (after hostOps0_2 V (Proc.devRef .tc main_v37) : (⟨2, ![16, 128]⟩ : Shape).Idx → EReal) (ix2 k o)
      = rd4 (V (Proc.devRef .tc main_arg1) : (⟨4, ![128, 1, 4, 4]⟩ : Shape).Idx → EReal) o 0 (k / 4) (k % 4) := by
  unfold hostOps0_2
  after_reads_simp
  pointwise
  exact at4 _ _ _ _ _

theorem bias (z : Fin 1) (o : Fin 128) :
    (after hostOps0_2 V (Proc.devRef .tc main_v38) : (⟨2, ![1, 128]⟩ : Shape).Idx → EReal) (ix2 z o)
      = rd1 (V (Proc.devRef .tc main_arg2) : (⟨1, ![128]⟩ : Shape).Idx → EReal) o := by
  unfold hostOps0_2
  after_reads_simp
  pointwise
  exact at1 _ _

/-- The sixteen shifted images. -/
def piece (U : Valuation τ sig (Elt Ideal)) : Fin 16 → S8x32x703x1.Idx → EReal :=
  ![U (Proc.devRef .tc main_v18), U (Proc.devRef .tc main_v19), U (Proc.devRef .tc main_v20),
    U (Proc.devRef .tc main_v21), U (Proc.devRef .tc main_v22), U (Proc.devRef .tc main_v23),
    U (Proc.devRef .tc main_v24), U (Proc.devRef .tc main_v25), U (Proc.devRef .tc main_v26),
    U (Proc.devRef .tc main_v27), U (Proc.devRef .tc main_v28), U (Proc.devRef .tc main_v29),
    U (Proc.devRef .tc main_v30), U (Proc.devRef .tc main_v31), U (Proc.devRef .tc main_v32),
    U (Proc.devRef .tc main_v33)]

/-- The patches are the shifted images side by side, as a matrix. -/
theorem cat_eq : (after hostOps0_2 V (Proc.devRef .tc main_v35) : S179968x16.Idx → EReal)
    = shapeCast S179968x16 (concatenate S8x32x703x16 3 (list16 (piece (upto hostOps0_2 V 32))) concatenates_S8x32x703x1_S8x32x703x1_S8x32x703x1_S8x32x703x1_S8x32x703x1_S8x32x703x1_S8x32x703x1_S8x32x703x1_S8x32x703x1_S8x32x703x1_S8x32x703x1_S8x32x703x1_S8x32x703x1_S8x32x703x1_S8x32x703x1_S8x32x703x1_S8x32x703x16_d3)
        shapeCasts_S8x32x703x16_S179968x16 := by
  unfold hostOps0_2
  after_reads_simp
  rfl

/-- One shifted image. -/
theorem piece_at (n : Fin 8) (i : Fin 32) (j : Fin 703) (k : Fin 16) :
    piece (upto hostOps0_2 V 32) k (ix4 n i j 0)
      = rd3 (V (Proc.devRef .tc main_v1) : (⟨3, ![8, 66, 1409]⟩ : Shape).Idx → EReal) n (2 * i + k / 4) (2 * j + k % 4) := by
  unfold hostOps0_2
  fin_cases k
  all_goals dsimp only [piece]
  all_goals after_reads_simp
  all_goals pointwise
  all_goals (refine (at3 _ _ _ _).trans ?_; try simp only [Nat.add_comm])

theorem patches (r : Fin 179968) (k : Fin 16) :
    (after hostOps0_2 V (Proc.devRef .tc main_v35) : (⟨2, ![179968, 16]⟩ : Shape).Idx → EReal) (ix2 r k)
      = rd3 (V (Proc.devRef .tc main_v1) : (⟨3, ![8, 66, 1409]⟩ : Shape).Idx → EReal) (r / 22496) (2 * (r / 703 % 32) + k / 4)
          (2 * (r % 703) + k % 4) := by
  rw [cat_eq]
  pointwise
  refine (stack16 (s := S8x32x703x1) (t := S8x32x703x16) 3 _ _ rfl rfl _ k rfl
    (ix4 ⟨r / 22496, by omega⟩ ⟨r / 703 % 32, by omega⟩ ⟨r % 703, by omega⟩ 0) fun b hb => ?_).trans (piece_at V _ _ _ k)
  fin_cases b <;> first | rfl | exact absurd rfl hb

end Cert.Proof.H0
-- ==== Proof.H1.lean ====
/-
  Before the second call: the planes are padded and split by the parity of row and column, and cut into two bands.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H1

open Cert.KernelIdeal Cert.KernelIdeal.Gen
open Idealize.ShloMosaic Idealize.ShloMosaic.TcCoe Idealize.ShloMosaic.StableHlo Idealize.SL.Sem

variable (V : Valuation τ sig (Elt Ideal))

/-- The first call's result by image, channel, row and column. -/
def plane : Plane := fun n c i j =>
  rd2 (V (Proc.devRef .tc main_v39) : (⟨2, ![179968, 128]⟩ : Shape).Idx → EReal) (n * 22496 + i * 703 + j) c

/-- The first call's result cut into images. -/
theorem cut (n : Fin 8) (i : Fin 32) (j : Fin 703) (c : Fin 128) :
    (after hostOps1 V (Proc.devRef .tc main_v40) : (⟨4, ![8, 32, 703, 128]⟩ : Shape).Idx → EReal) (ix4 n i j c)
      = plane V n c i j := by
  unfold hostOps1
  after_reads_simp
  pointwise
  simp only [at2]
  unfold plane
  congr 1

/-- The zero the padding uses. -/
theorem zero_pad : (after hostOps1 V (Proc.devRef .tc main_c_1) : S_.Idx → BitVec 32) = constantI S_ 32 0#32 := by
  unfold hostOps1
  after_reads_simp

/-- The padded planes. -/
theorem pad (hz : (V (Proc.devRef .tc main_c_1) : S_.Idx → BitVec 32) = constantI S_ 32 0#32)
    (n : Fin 8) (a : Fin 34) (b : Fin 705) (c : Fin 128) :
    (after hostOps1_1 V (Proc.devRef .tc main_v41) : (⟨4, ![8, 34, 705, 128]⟩ : Shape).Idx → EReal) (ix4 n a b c)
      = padded 32 703 (fun n c i j => rd4 (V (Proc.devRef .tc main_v40) : (⟨4, ![8, 32, 703, 128]⟩ : Shape).Idx → EReal) n i j c) n c a b := by
  unfold hostOps1_1
  after_reads_simp
  simp -implicitDefEqProofs only [TRef.toBuf, TRef.ofBuf, cast_cast, cast_eq, hz]
  pointwise
  rw [H0.sitofp_zero]
  simp only [at4 (V (Proc.devRef .tc main_v40)), dite_eq_ite]
  rfl

/-- Even rows, even columns. -/
theorem even_even (n : Fin 8) (a : Fin 17) (b : Fin 353) (c : Fin 128) :
    (after hostOps1_2 V (Proc.devRef .tc main_v42) : (⟨4, ![8, 17, 353, 128]⟩ : Shape).Idx → EReal) (ix4 n a b c)
      = rd4 (V (Proc.devRef .tc main_v41) : (⟨4, ![8, 34, 705, 128]⟩ : Shape).Idx → EReal) n (2 * a) (2 * b) c := by
  unfold hostOps1_2
  after_reads_simp
  pointwise
  refine (at4 _ _ _ _ _).trans ?_
  simp only [Nat.add_comm, Nat.mul_comm, Nat.add_zero, Nat.zero_add]

/-- Even rows, odd columns, one column short. -/
theorem even_odd' (n : Fin 8) (a : Fin 17) (b : Fin 352) (c : Fin 128) :
    (after hostOps1_2 V (Proc.devRef .tc main_v43) : (⟨4, ![8, 17, 352, 128]⟩ : Shape).Idx → EReal) (ix4 n a b c)
      = rd4 (V (Proc.devRef .tc main_v41) : (⟨4, ![8, 34, 705, 128]⟩ : Shape).Idx → EReal) n (2 * a) (2 * b + 1) c := by
  unfold hostOps1_2
  after_reads_simp
  pointwise
  refine (at4 _ _ _ _ _).trans ?_
  simp only [Nat.add_comm, Nat.mul_comm, Nat.add_zero, Nat.zero_add]

theorem zero_even : (after hostOps1_2 V (Proc.devRef .tc main_c_2) : S_.Idx → BitVec 32) = constantI S_ 32 0#32 := by
  unfold hostOps1_2
  after_reads_simp

/-- The missing column is zero. -/
theorem fill_even (hz : (V (Proc.devRef .tc main_c_2) : S_.Idx → BitVec 32) = constantI S_ 32 0#32)
    (n : Fin 8) (a : Fin 17) (b : Fin 353) (c : Fin 128) :
    (after hostOps1_3 V (Proc.devRef .tc main_v44) : (⟨4, ![8, 17, 353, 128]⟩ : Shape).Idx → EReal) (ix4 n a b c)
      = rd4 (V (Proc.devRef .tc main_v43) : (⟨4, ![8, 17, 352, 128]⟩ : Shape).Idx → EReal) n a b c := by
  unfold hostOps1_3
  after_reads_simp
  simp -implicitDefEqProofs only [TRef.toBuf, TRef.ofBuf, cast_cast, cast_eq, hz]
  pointwise
  rw [H0.sitofp_zero]
  simp only [at4 (V (Proc.devRef .tc main_v43)), dite_eq_ite]
  unfold rd4
  split <;> [rfl; (rw [dif_neg (by omega)])]

/-- Odd rows, even columns. -/
theorem odd_even (n : Fin 8) (a : Fin 17) (b : Fin 353) (c : Fin 128) :
    (after hostOps1_4 V (Proc.devRef .tc main_v45) : (⟨4, ![8, 17, 353, 128]⟩ : Shape).Idx → EReal) (ix4 n a b c)
      = rd4 (V (Proc.devRef .tc main_v41) : (⟨4, ![8, 34, 705, 128]⟩ : Shape).Idx → EReal) n (2 * a + 1) (2 * b) c := by
  unfold hostOps1_4
  after_reads_simp
  pointwise
  refine (at4 _ _ _ _ _).trans ?_
  simp only [Nat.add_comm, Nat.mul_comm, Nat.add_zero, Nat.zero_add]

/-- Odd rows, odd columns, one column short. -/
theorem odd_odd' (n : Fin 8) (a : Fin 17) (b : Fin 352) (c : Fin 128) :
    (after hostOps1_4 V (Proc.devRef .tc main_v46) : (⟨4, ![8, 17, 352, 128]⟩ : Shape).Idx → EReal) (ix4 n a b c)
      = rd4 (V (Proc.devRef .tc main_v41) : (⟨4, ![8, 34, 705, 128]⟩ : Shape).Idx → EReal) n (2 * a + 1) (2 * b + 1) c := by
  unfold hostOps1_4
  after_reads_simp
  pointwise
  refine (at4 _ _ _ _ _).trans ?_
  simp only [Nat.add_comm, Nat.mul_comm, Nat.add_zero, Nat.zero_add]

theorem zero_odd : (after hostOps1_4 V (Proc.devRef .tc main_c_3) : S_.Idx → BitVec 32) = constantI S_ 32 0#32 := by
  unfold hostOps1_4
  after_reads_simp

theorem fill_odd (hz : (V (Proc.devRef .tc main_c_3) : S_.Idx → BitVec 32) = constantI S_ 32 0#32)
    (n : Fin 8) (a : Fin 17) (b : Fin 353) (c : Fin 128) :
    (after hostOps1_5 V (Proc.devRef .tc main_v47) : (⟨4, ![8, 17, 353, 128]⟩ : Shape).Idx → EReal) (ix4 n a b c)
      = rd4 (V (Proc.devRef .tc main_v46) : (⟨4, ![8, 17, 352, 128]⟩ : Shape).Idx → EReal) n a b c := by
  unfold hostOps1_5
  after_reads_simp
  simp -implicitDefEqProofs only [TRef.toBuf, TRef.ofBuf, cast_cast, cast_eq, hz]
  pointwise
  rw [H0.sitofp_zero]
  simp only [at4 (V (Proc.devRef .tc main_v46)), dite_eq_ite]
  unfold rd4
  split <;> [rfl; (rw [dif_neg (by omega)])]

/-- The four phases. -/
def phase (U : Valuation τ sig (Elt Ideal)) : Fin 4 → (⟨4, ![8, 17, 353, 128]⟩ : Shape).Idx → EReal :=
  ![U (Proc.devRef .tc main_v42), U (Proc.devRef .tc main_v44), U (Proc.devRef .tc main_v45), U (Proc.devRef .tc main_v47)]

set_option maxHeartbeats 2000000 in
/-- The four phases in two bands of nine rows. -/
theorem bands (n : Fin 8) (q : Fin 2) (p : Fin 4) (a : Fin 9) (b : Fin 353) (c : Fin 128) :
    (after hostOps1_6 V (Proc.devRef .tc main_v57) : (⟨6, ![8, 2, 4, 9, 353, 128]⟩ : Shape).Idx → EReal) (ix6 n q p a b c)
      = rd4 (phase V p) n (8 * q + a) b c := by
  unfold hostOps1_6
  after_reads_simp
  pointwise
  fin_cases q <;> fin_cases p
  all_goals simp only [Fin.zero_eta, Fin.isValue, Fin.mk_one, Fin.reduceFinMk, Fin.val_zero, Fin.val_one, Fin.val_two, Fin.coe_ofNat_eq_mod, Nat.reduceMod, Nat.reduceSub, Nat.reduceLT, ↓reduceDIte, Nat.lt_irrefl]
  all_goals after_reads_simp
  all_goals pointwise
  all_goals refine (at4 _ _ _ _ _).trans ?_
  all_goals simp only [Nat.mul_zero, Nat.mul_one, Nat.zero_add]
  all_goals rfl

end Cert.Proof.H1
-- ==== Proof.H1w.lean ====
/-
  The weights and the bias of the second call.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H1w

open Cert.KernelIdeal Cert.KernelIdeal.Gen
open Idealize.ShloMosaic Idealize.ShloMosaic.TcCoe Idealize.ShloMosaic.StableHlo Idealize.SL.Sem

variable (V : Valuation τ sig (Elt Ideal))

/-- The sixteen matrices of weights. -/
def piece (U : Valuation τ sig (Elt Ideal)) : Fin 16 → S1x128x64.Idx → EReal :=
  ![U (Proc.devRef .tc main_v106), U (Proc.devRef .tc main_v107), U (Proc.devRef .tc main_v108),
    U (Proc.devRef .tc main_v109), U (Proc.devRef .tc main_v110), U (Proc.devRef .tc main_v111),
    U (Proc.devRef .tc main_v112), U (Proc.devRef .tc main_v113), U (Proc.devRef .tc main_v114),
    U (Proc.devRef .tc main_v115), U (Proc.devRef .tc main_v116), U (Proc.devRef .tc main_v117),
    U (Proc.devRef .tc main_v118), U (Proc.devRef .tc main_v119), U (Proc.devRef .tc main_v120),
    U (Proc.devRef .tc main_v121)]

set_option maxHeartbeats 2000000 in
theorem cat_eq : (after hostOps1_6 V (Proc.devRef .tc main_v122) : S16x128x64.Idx → EReal)
    = concatenate S16x128x64 0 (list16 (piece (upto hostOps1_6 V 74))) concatenates_S1x128x64_S1x128x64_S1x128x64_S1x128x64_S1x128x64_S1x128x64_S1x128x64_S1x128x64_S1x128x64_S1x128x64_S1x128x64_S1x128x64_S1x128x64_S1x128x64_S1x128x64_S1x128x64_S16x128x64_d0 := by
  unfold hostOps1_6
  after_reads_simp
  rfl

set_option maxHeartbeats 2000000 in
/-- One matrix of weights. -/
theorem piece_at (k : Fin 16) (c : Fin 128) (o : Fin 64) :
    piece (upto hostOps1_6 V 74) k (ix3 0 c o) = rd4 (V (Proc.devRef .tc main_arg3) : (⟨4, ![64, 128, 4, 4]⟩ : Shape).Idx → EReal) o c (k / 4) (k % 4) := by
  unfold hostOps1_6
  fin_cases k
  all_goals dsimp only [piece]
  all_goals after_reads_simp
  all_goals pointwise
  all_goals exact at4 _ _ _ _ _

/-- The second convolution's weights by tap. -/
theorem weights (k : Fin 16) (c : Fin 128) (o : Fin 64) :
    (after hostOps1_6 V (Proc.devRef .tc main_v122) : (⟨3, ![16, 128, 64]⟩ : Shape).Idx → EReal) (ix3 k c o)
      = rd4 (V (Proc.devRef .tc main_arg3) : (⟨4, ![64, 128, 4, 4]⟩ : Shape).Idx → EReal) o c (k / 4) (k % 4) := by
  rw [cat_eq]
  refine (stack16 (s := S1x128x64) (t := S16x128x64) 0 _ _ rfl rfl _ k rfl (ix3 0 c o) fun b hb => ?_).trans (piece_at V k c o)
  fin_cases b <;> first | rfl | exact absurd rfl hb

/-- The bias as a row. -/
theorem bias (z : Fin 1) (o : Fin 64) :
    (after hostOps1_6 V (Proc.devRef .tc main_v123) : (⟨2, ![1, 64]⟩ : Shape).Idx → EReal) (ix2 z o)
      = rd1 (V (Proc.devRef .tc main_arg4) : (⟨1, ![64]⟩ : Shape).Idx → EReal) o := by
  unfold hostOps1_6
  after_reads_simp
  pointwise
  exact at1 _ _

end Cert.Proof.H1w
-- ==== Proof.H2.lean ====
/-
  Before the third call: the second call's result as a matrix of rows, and the codebook transposed.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H2

open Cert.KernelIdeal Cert.KernelIdeal.Gen
open Idealize.ShloMosaic Idealize.ShloMosaic.TcCoe Idealize.ShloMosaic.StableHlo Idealize.SL.Sem

variable (V : Valuation τ sig (Elt Ideal))

/-- The second call's result as rows of codes. -/
theorem rows (r : Fin 44928) (c : Fin 64) :
    (after hostOps2 V (Proc.devRef .tc main_v125) : (⟨2, ![44928, 64]⟩ : Shape).Idx → EReal) (ix2 r c)
      = rd5 (V (Proc.devRef .tc main_v124) : (⟨5, ![8, 2, 8, 351, 64]⟩ : Shape).Idx → EReal) (r / 5616) (r / 2808 % 2) (r / 351 % 8) (r % 351) c := by
  unfold hostOps2
  after_reads_simp
  pointwise
  refine (at5 _ _ _ _ _ _).trans ?_
  congr 1

/-- The codebook, transposed. -/
theorem book (k : Fin 64) (r : Fin 512) :
    (after hostOps2 V (Proc.devRef .tc main_v126) : (⟨2, ![64, 512]⟩ : Shape).Idx → EReal) (ix2 k r)
      = (V (Proc.devRef .tc main_arg5) : (⟨2, ![512, 64]⟩ : Shape).Idx → EReal) (ix2 r k) := by
  unfold hostOps2
  after_reads_simp
  pointwise

end Cert.Proof.H2
-- ==== Proof.KV1.lean ====
/-
  The kernel's encoder: what the first three calls leave, as planes of the network.
-/
module

public import proofs.«01_k».proof.Proof.Net
public import proofs.«01_k».proof.Proof.K0
public import proofs.«01_k».proof.Proof.K1
public import proofs.«01_k».proof.Proof.K2
public import proofs.«01_k».proof.Proof.H0
public import proofs.«01_k».proof.Proof.H1
public import proofs.«01_k».proof.Proof.H1w
public import proofs.«01_k».proof.Proof.H2

@[expose] public section

set_option maxRecDepth 16384

noncomputable section

namespace Cert.Proof.KV

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (d : Dev nD)

/-- The kernel's arguments. -/
def args : Args where
  x := rd4 (m ((d : Thread nD τ).loc main_arg0) : (⟨4, ![8, 1, 64, 1407]⟩ : Shape).Idx → EReal)
  w1 := rd4 (m ((d : Thread nD τ).loc main_arg1) : (⟨4, ![128, 1, 4, 4]⟩ : Shape).Idx → EReal)
  b1 := rd1 (m ((d : Thread nD τ).loc main_arg2) : (⟨1, ![128]⟩ : Shape).Idx → EReal)
  w2 := rd4 (m ((d : Thread nD τ).loc main_arg3) : (⟨4, ![64, 128, 4, 4]⟩ : Shape).Idx → EReal)
  b2 := rd1 (m ((d : Thread nD τ).loc main_arg4) : (⟨1, ![64]⟩ : Shape).Idx → EReal)
  cb := rd2 (m ((d : Thread nD τ).loc main_arg5) : (⟨2, ![512, 64]⟩ : Shape).Idx → EReal)
  wd1 := rd4 (m ((d : Thread nD τ).loc main_arg6) : (⟨4, ![64, 128, 4, 4]⟩ : Shape).Idx → EReal)
  bd1 := rd1 (m ((d : Thread nD τ).loc main_arg7) : (⟨1, ![128]⟩ : Shape).Idx → EReal)
  wd2 := rd4 (m ((d : Thread nD τ).loc main_arg8) : (⟨4, ![128, 64, 4, 4]⟩ : Shape).Idx → EReal)
  bd2 := rd1 (m ((d : Thread nD τ).loc main_arg9) : (⟨1, ![64]⟩ : Shape).Idx → EReal)
  wo := rd4 (m ((d : Thread nD τ).loc main_arg10) : (⟨4, ![1, 64, 3, 3]⟩ : Shape).Idx → EReal)
  bo := rd1 (m ((d : Thread nD τ).loc main_arg11) : (⟨1, ![1]⟩ : Shape).Idx → EReal)

/-- What the first call leaves. -/
theorem call0 (n o i j : ℕ) (hn : n < 8) (ho : o < 128) (hi : i < 32) (hj : j < 703) :
    rd2 (W4 m ρ d (Proc.devRef .tc main_v39) : (⟨2, ![179968, 128]⟩ : Shape).Idx → EReal) (n * 22496 + i * 703 + j) o
      = (args m d).z1 n o i j := by
  rw [rd2_of _ (by omega) ho]
  have e : (W4 m ρ d (Proc.devRef .tc main_v39) : (⟨2, ![179968, 128]⟩ : Shape).Idx → EReal) = K0.G _ _ _ :=
    (W4_arr m ρ d 3).trans (K0.final (V3 m ρ) d)
  rw [e]
  refine relu_eq ?_ ?_
  · have hp (k : Fin 16) : (V3 m ρ d main_v35 : (⟨2, ![179968, 16]⟩ : Shape).Idx → EReal) (ix2 ⟨n * 22496 + i * 703 + j, by omega⟩ k)
        = padded 64 1407 (args m d).x n 0 (2 * i + k / 4) (2 * j + k % 4) := by
      refine (H0.patches (W2 m ρ d) ⟨n * 22496 + i * 703 + j, by omega⟩ k).trans ?_
      have hk := k.isLt
      have e1 : (n * 22496 + i * 703 + j) / 22496 = n := by omega
      have e2 : (n * 22496 + i * 703 + j) / 703 % 32 = i := by omega
      have e3 : (n * 22496 + i * 703 + j) % 703 = j := by omega
      show rd3 _ ((n * 22496 + i * 703 + j) / 22496) (2 * ((n * 22496 + i * 703 + j) / 703 % 32) + k / 4)
        (2 * ((n * 22496 + i * 703 + j) % 703) + k % 4) = _
      rw [e1, e2, e3, rd3_of _ hn (by omega) (by omega)]
      exact H0.pad (W0 m ρ d) ⟨n, hn⟩ ⟨2 * i + k / 4, by omega⟩ ⟨2 * j + k % 4, by omega⟩
    have hw (k : Fin 16) : (V3 m ρ d main_v37 : (⟨2, ![16, 128]⟩ : Shape).Idx → EReal) (ix2 k ⟨o, ho⟩)
        = (args m d).w1 o 0 (k / 4) (k % 4) := by
      refine (H0.weights (W2 m ρ d) k ⟨o, ho⟩).trans ?_
      rw [W2_args m ρ d main_arg1 (by decide)]
      rfl
    refine (Finset.sum_congr rfl fun k _ => mul_eq (hp k) (hw k)).trans ?_
    refine (sum_sixteen fun a b => padded 64 1407 (args m d).x n 0 (2 * i + a) (2 * j + b) * (args m d).w1 o 0 a b).trans ?_
    unfold winSum
    rw [Fin.sum_univ_one]
    exact Finset.sum_congr rfl fun a _ => Finset.sum_congr rfl fun b _ => mul_comm _ _
  · refine (H0.bias (W2 m ρ d) 0 ⟨o, ho⟩).trans ?_
    rw [W2_args m ρ d main_arg2 (by decide)]
    rfl

/-- The padded planes of the first layer. -/
theorem pad1 (n c a b : ℕ) (hn : n < 8) (hc : c < 128) (ha : a < 34) (hb : b < 705) :
    rd4 (W6 m ρ d (Proc.devRef .tc main_v41) : (⟨4, ![8, 34, 705, 128]⟩ : Shape).Idx → EReal) n a b c
      = padded 32 703 (args m d).z1 n c a b := by
  rw [rd4_of _ hn ha hb hc]
  refine (H1.pad (W5 m ρ d) (H1.zero_pad _) ⟨n, hn⟩ ⟨a, ha⟩ ⟨b, hb⟩ ⟨c, hc⟩).trans ?_
  refine padded_congr (fun i hi j hj => ?_) a b
  refine (rd4_of _ hn hi hj hc).trans ?_
  refine (H1.cut (W4 m ρ d) ⟨n, hn⟩ ⟨i, hi⟩ ⟨j, hj⟩ ⟨c, hc⟩).trans ?_
  exact call0 m ρ d n c i j hn hc hi hj

/-- The four phases of the padded planes. -/
theorem phases (p : Fin 4) (n a b c : ℕ) (hn : n < 8) (ha : a < 17) (hb : b < 353) (hc : c < 128) :
    rd4 (H1.phase (W10 m ρ d) p) n a b c = padded 32 703 (args m d).z1 n c (2 * a + p / 2) (2 * b + p % 2) := by
  rw [rd4_of _ hn ha hb hc]
  have h0 : padded 32 703 (args m d).z1 n c (2 * a) 705 = 0 := if_neg (by omega)
  have h1 : padded 32 703 (args m d).z1 n c (2 * a + 1) 705 = 0 := if_neg (by omega)
  fin_cases p
  · refine (congrFun ((W10_of m ρ d main_v42 (by decide)).trans <| (W9_of m ρ d main_v42 (by decide)).trans <|
      W8_of m ρ d main_v42 (by decide)) _).trans ?_
    refine (H1.even_even (W6 m ρ d) ⟨n, hn⟩ ⟨a, ha⟩ ⟨b, hb⟩ ⟨c, hc⟩).trans ?_
    exact pad1 m ρ d n c _ _ hn hc (by omega) (by omega)
  · refine (congrFun ((W10_of m ρ d main_v44 (by decide)).trans (W9_of m ρ d main_v44 (by decide))) _).trans ?_
    refine (H1.fill_even (W7 m ρ d) (H1.zero_even _) ⟨n, hn⟩ ⟨a, ha⟩ ⟨b, hb⟩ ⟨c, hc⟩).trans ?_
    by_cases hb' : b < 352
    · rw [rd4_of _ hn ha hb' hc]
      refine (H1.even_odd' (W6 m ρ d) ⟨n, hn⟩ ⟨a, ha⟩ ⟨b, hb'⟩ ⟨c, hc⟩).trans ?_
      exact pad1 m ρ d n c _ _ hn hc (by omega) (by omega)
    · obtain rfl : b = 352 := by omega
      exact (dif_neg fun h => lt_irrefl 352 h.2.2.1).trans h0.symm
  · refine (congrFun (W10_of m ρ d main_v45 (by decide)) _).trans ?_
    refine (H1.odd_even (W8 m ρ d) ⟨n, hn⟩ ⟨a, ha⟩ ⟨b, hb⟩ ⟨c, hc⟩).trans ?_
    rw [W8_of m ρ d main_v41 (by decide), W7_of m ρ d main_v41 (by decide)]
    exact pad1 m ρ d n c _ _ hn hc (by omega) (by omega)
  · refine (H1.fill_odd (W9 m ρ d) (H1.zero_odd _) ⟨n, hn⟩ ⟨a, ha⟩ ⟨b, hb⟩ ⟨c, hc⟩).trans ?_
    by_cases hb' : b < 352
    · rw [rd4_of _ hn ha hb' hc]
      refine (H1.odd_odd' (W8 m ρ d) ⟨n, hn⟩ ⟨a, ha⟩ ⟨b, hb'⟩ ⟨c, hc⟩).trans ?_
      rw [W8_of m ρ d main_v41 (by decide), W7_of m ρ d main_v41 (by decide)]
      exact pad1 m ρ d n c _ _ hn hc (by omega) (by omega)
    · obtain rfl : b = 352 := by omega
      exact (dif_neg fun h => lt_irrefl 352 h.2.2.1).trans h1.symm

/-- What the second call leaves. -/
theorem call1 (n : Fin 8) (q : Fin 2) (i : Fin 8) (j : Fin 351) (o : Fin 64) :
    (W12 m ρ d (Proc.devRef .tc main_v124) : (⟨5, ![8, 2, 8, 351, 64]⟩ : Shape).Idx → EReal) (ix5 n q i j o)
      = (args m d).z2 n o (8 * q + i) j := by
  have e : (W12 m ρ d (Proc.devRef .tc main_v124) : (⟨5, ![8, 2, 8, 351, 64]⟩ : Shape).Idx → EReal) = K1.G _ _ _ :=
    (W12_arr m ρ d 3).trans (K1.final (V11 m ρ) d)
  rw [e]
  refine relu_eq ?_ ?_
  · have hp (k l : Fin 4) (c : Fin 128) : (V11 m ρ d main_v57 : (⟨6, ![8, 2, 4, 9, 353, 128]⟩ : Shape).Idx → EReal)
          (ix6 n q ⟨k % 2 * 2 + l % 2, by omega⟩ ⟨i + k / 2, by omega⟩ ⟨j + l / 2, by omega⟩ c)
        = padded 32 703 (args m d).z1 n c (2 * (8 * q + i) + k) (2 * j + l) := by
      refine (H1.bands (W10 m ρ d) n q ⟨k % 2 * 2 + l % 2, by omega⟩ ⟨i + k / 2, by omega⟩ ⟨j + l / 2, by omega⟩ c).trans ?_
      refine (phases m ρ d _ n _ _ c n.isLt (by show 8 * (q : ℕ) + (i + k / 2) < 17; omega) (by show (j : ℕ) + l / 2 < 353; omega) c.isLt).trans ?_
      show padded _ _ _ _ _ (2 * (8 * q + (i + k / 2)) + (k % 2 * 2 + l % 2) / 2) (2 * (j + l / 2) + (k % 2 * 2 + l % 2) % 2) = _
      congr 1 <;> omega
    have hw (k l : Fin 4) (c : Fin 128) : (V11 m ρ d main_v122 : (⟨3, ![16, 128, 64]⟩ : Shape).Idx → EReal)
          (ix3 ⟨k * 4 + l, by omega⟩ c o) = (args m d).w2 o c k l := by
      refine (H1w.weights (W10 m ρ d) ⟨k * 4 + l, by omega⟩ c o).trans ?_
      rw [W10_args m ρ d main_arg3 (by decide)]
      show (args m d).w2 o c ((k * 4 + l) / 4) ((k * 4 + l) % 4) = _
      congr 1 <;> omega
    refine (Finset.sum_congr rfl fun k _ => Finset.sum_congr rfl fun l _ => Finset.sum_congr rfl fun c _ =>
      mul_eq (hp k l c) (hw k l c)).trans ?_
    unfold winSum
    refine (Finset.sum_congr rfl fun k _ => Finset.sum_comm).trans (Finset.sum_comm.trans ?_)
    exact Finset.sum_congr rfl fun c _ => Finset.sum_congr rfl fun k _ => Finset.sum_congr rfl fun l _ => mul_comm _ _
  · refine (H1w.bias (W10 m ρ d) 0 o).trans ?_
    rw [W10_args m ρ d main_arg4 (by decide)]
    rfl

/-- The rows the third call reads. -/
theorem rows (r k : ℕ) (hr : r < 44928) (hk : k < 64) :
    rd2 (V13 m ρ d main_v125 : (⟨2, ![44928, 64]⟩ : Shape).Idx → EReal) r k = (args m d).z2 (r / 5616) k (r / 351 % 16) (r % 351) := by
  rw [rd2_of _ hr hk]
  refine (H2.rows (W12 m ρ d) ⟨r, hr⟩ ⟨k, hk⟩).trans ?_
  refine (rd5_of _ (by show r / 5616 < 8; omega) (by show r / 2808 % 2 < 2; omega) (by show r / 351 % 8 < 8; omega)
    (by show r % 351 < 351; omega) hk).trans ?_
  refine (call1 m ρ d _ _ _ _ _).trans ?_
  show (args m d).z2 (r / 5616) k (8 * (r / 2808 % 2) + r / 351 % 8) (r % 351) = _
  congr 1
  omega

/-- What the third call leaves. -/
theorem call2 (n c i j : ℕ) (hn : n < 8) (hc : c < 64) (hi : i < 16) (hj : j < 351) :
    rd2 (W14 m ρ d (Proc.devRef .tc main_v127) : (⟨2, ![44928, 64]⟩ : Shape).Idx → EReal) (n * 5616 + i * 351 + j) c
      = (args m d).zq n c i j := by
  rw [rd2_of _ (by omega) hc]
  have hcb : rd2 (V13 m ρ d main_arg5 : (⟨2, ![512, 64]⟩ : Shape).Idx → EReal) = (args m d).cb :=
    congrArg rd2 (W13_args m ρ d main_arg5 (by decide))
  have e : (W14 m ρ d (Proc.devRef .tc main_v127) : (⟨2, ![44928, 64]⟩ : Shape).Idx → EReal) = K2.G _ _ :=
    (W14_arr m ρ d 3).trans (K2.final (V13 m ρ) d fun k r => by
      refine (H2.book (W12 m ρ d) k r).trans ?_
      exact (congrFun (W13_of m ρ d main_arg5 (by decide)) _).symm)
  rw [e]
  show rd2 _ (nearest (rd2 _) fun c => rd2 _ (n * 5616 + i * 351 + j) c) c = _
  rw [hcb]
  unfold Args.zq quantised
  rw [nearest_congr fun k hk => (rows m ρ d _ k (by omega) hk).trans ?_]
  congr 1 <;> omega

end Cert.Proof.KV

end
-- ==== Proof.K3.lean ====
/-
  The fourth call: a transposed convolution by output parity, four taps each, a bias and a relu.
-/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.K3

open Cert.KernelIdeal Cert.KernelIdeal.Gen
open Idealize.ShloMosaic Idealize.ShloMosaic.TcCoe Idealize.SL.Sem
open Idealize.ShloMosaic.Pipeline (Dat)

/-- The windows' block indices. -/
theorem idx : ∀ t : Fin cfg3.N, win3_0.index t = ![t.val, 0,0,0] ∧ win3_1.index t = ![0, 0,0]
    ∧ win3_2.index t = ![0, 0] ∧ win3_3.index t = ![t.val, 0,0,0,0,0] :=
  (by decide +kernel : ∀ t : Fin grid3.N, _)

/-- One output element from natural coordinates: row `i` and column `j` of parity `a`, `b`, channel `o`. -/
def val (x0 : Vec Ideal S1x18x353x64 .f32) (x1 : Vec Ideal S16x64x128 .f32) (x2 : Vec Ideal S1x128 .f32)
    (i a j b o : ℕ) : EReal :=
  max (∑ th : Fin 2, ∑ tw : Fin 2, ∑ c : Fin 64,
      rd4 x0 0 (a + th + i) (b + tw + j) c * rd3 x1 (a * 8 + b * 4 + th * 2 + tw) c o + rd2 x2 0 o) 0

/-- What one block computes. -/
theorem block (x0 : Vec Ideal S1x18x353x64 .f32) (x1 : Vec Ideal S16x64x128 .f32) (x2 : Vec Ideal S1x128 .f32)
    (y : S1x16x2x351x2x128.Idx) :
    out3_3 (F := Ideal) x0 x1 x2 y = val x0 x1 x2 (y 1) (y 2) (y 3) (y 4) (y 5) := by
  unfold out3_3
  canon_tiles x h
  all_goals
    obtain ⟨i, j, o, rfl⟩ : ∃ (i : Fin 16) (j : Fin 351) (o : Fin 128), x = ix6 0 i 0 j 0 o :=
      ⟨x 1, x 3, x 5, by rw [← ix6_eta x]; congr 1 <;> exact Subsingleton.elim (α := Fin 1) _ _⟩
    rw [h1, h2, h3, h4, h5]
    unfold val
    simp only [Fin.sum_univ_two]
    pointwise [k3_pay1, k3_pay2, k3_pay3, k3_pay4, k3_pay5, k3_pay6, k3_pay7, k3_pay8, k3_pay9, k3_pay10, k3_pay11,
      k3_pay12, k3_pay13, k3_pay14]
    simp only [at4 x0, at3 x1, at2 x2, ← add_assoc]
    rfl

variable (V : (c : Dev nD) → (b : Ref sig .tc) → Buf (Elt Ideal) ((c : Thread nD τ).loc b))

/-- The result at image `n`, row `i` of parity `a`, column `j` of parity `b`, channel `o`. -/
def at' (P : FVec Ideal S8x18x353x64 .f32) (W : FVec Ideal S16x64x128 .f32) (B : FVec Ideal S1x128 .f32)
    (n i a j b o : ℕ) : EReal :=
  max (∑ th : Fin 2, ∑ tw : Fin 2, ∑ c : Fin 64,
      rd4 P n (a + th + i) (b + tw + j) c * rd3 W (a * 8 + b * 4 + th * 2 + tw) c o + rd2 B 0 o) 0

/-- The result's array after the call, from the three arrays it reads. -/
def G (P : FVec Ideal S8x18x353x64 .f32) (W : FVec Ideal S16x64x128 .f32) (B : FVec Ideal S1x128 .f32) :
    FVec Ideal S8x16x2x351x2x128 .f32 := fun y => at' P W B (y 0) (y 1) (y 2) (y 3) (y 4) (y 5)

/-- A block of the first operand is one image. -/
theorem blk0 (c : Dev nD) (t : Fin cfg3.N) (r s k : ℕ) :
    rd4 (a := 1) (b := 18) (c := 353) (d := 64) (iblk3 V c 0 t) 0 r s k
      = rd4 (a := 8) (b := 18) (c := 353) (d := 64) (V c main_v129) t r s k := by
  have ht : t.val < 8 := t.isLt
  unfold rd4
  by_cases h : r < 18 ∧ s < 353 ∧ k < 64
  · rw [dif_pos ⟨Nat.one_pos, h⟩, dif_pos ⟨ht, h⟩]
    blk_ext [iblk3, idx t]
  · rw [dif_neg fun h' => h h'.2, dif_neg fun h' => h h'.2]

/-- Where a block's element lies in the result's array. -/
theorem place (t : Fin cfg3.N) (y : S1x16x2x351x2x128.Idx) :
    ((((cfg3.win 3).blk t).view.emb y) 0 : ℕ) = t.val ∧ ((((cfg3.win 3).blk t).view.emb y) 1 : ℕ) = y 1
    ∧ ((((cfg3.win 3).blk t).view.emb y) 2 : ℕ) = y 2 ∧ ((((cfg3.win 3).blk t).view.emb y) 3 : ℕ) = y 3
    ∧ ((((cfg3.win 3).blk t).view.emb y) 4 : ℕ) = y 4 ∧ ((((cfg3.win 3).blk t).view.emb y) 5 : ℕ) = y 5 := by
  have hy0 : (y 0 : ℕ) = 0 := Nat.lt_one_iff.mp (y 0).isLt
  refine ⟨?_, ?_, ?_, ?_, ?_, ?_⟩ <;> blk_simp [idx t] <;> omega

/-- A block's element is the result's at the block's place. -/
theorem point (c : Dev nD) (t : Fin cfg3.N) (y : S1x16x2x351x2x128.Idx) :
    out3_3 (F := Ideal) (iblk3 V c 0 t) (iblk3 V c 1 t) (iblk3 V c 2 t) y
      = G (V c main_v129) (V c main_v178) (V c main_v179) (((cfg3.win 3).blk t).view.emb y) := by
  refine (block _ _ _ y).trans ?_
  have e1 : (iblk3 V c 1 t : S16x64x128.Idx → EReal) = V c main_v178 := by
    funext j; blk_ext [iblk3, idx t]
  have e2 : (iblk3 V c 2 t : S1x128.Idx → EReal) = V c main_v179 := by
    funext j; blk_ext [iblk3, idx t]
  obtain ⟨p0, p1, p2, p3, p4, p5⟩ := place t y
  unfold G
  rw [p0, p1, p2, p3, p4, p5]
  unfold val at'
  rw [e1, e2]
  simp only [blk0]

/-- The call's result. -/
theorem final (c : Dev nD) :
    (dat3 V c).arrAt 3 cfg3.N = G (V c main_v129) (V c main_v178) (V c main_v179) := by
  refine (dat3 V c).arrAt_eq_of_covers 3 _ (by decide +kernel) fun t hf y => ?_
  blk_simp
  rw [after3_3]
  exact point V c t y

end Cert.Proof.K3
-- ==== Proof.K4.lean ====
/-
  The fifth call: a transposed convolution by output parity, four taps each, a bias and a relu.
-/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.K4

open Cert.KernelIdeal Cert.KernelIdeal.Gen
open Idealize.ShloMosaic Idealize.ShloMosaic.TcCoe Idealize.SL.Sem
open Idealize.ShloMosaic.Pipeline (Dat)

/-- The windows' block indices. -/
theorem idx : ∀ t : Fin cfg4.N, win4_0.index t = ![t.val / 4, t.val % 4, 0,0,0] ∧ win4_1.index t = ![0, 0,0]
    ∧ win4_2.index t = ![0, 0] ∧ win4_3.index t = ![t.val / 4, t.val % 4, 0,0,0,0,0] :=
  (by decide +kernel : ∀ t : Fin grid4.N, _)

/-- One output element from natural coordinates: row `i` and column `j` of parity `a`, `b`, channel `o`. -/
def val (x0 : Vec Ideal S1x1x10x704x128 .f32) (x1 : Vec Ideal S16x128x64 .f32) (x2 : Vec Ideal S1x64 .f32)
    (i a j b o : ℕ) : EReal :=
  max (∑ th : Fin 2, ∑ tw : Fin 2, ∑ c : Fin 128,
      rd5 x0 0 0 (a + th + i) (b + tw + j) c * rd3 x1 (a * 8 + b * 4 + th * 2 + tw) c o + rd2 x2 0 o) 0

/-- What one block computes. -/
theorem block (x0 : Vec Ideal S1x1x10x704x128 .f32) (x1 : Vec Ideal S16x128x64 .f32) (x2 : Vec Ideal S1x64 .f32)
    (y : S1x1x8x2x702x2x64.Idx) :
    out4_3 (F := Ideal) x0 x1 x2 y = val x0 x1 x2 (y 2) (y 3) (y 4) (y 5) (y 6) := by
  unfold out4_3
  canon_tiles x h
  all_goals
    obtain ⟨i, j, o, rfl⟩ : ∃ (i : Fin 8) (j : Fin 702) (o : Fin 64), x = ix7 0 0 i 0 j 0 o :=
      ⟨x 2, x 4, x 6, by rw [← ix7_eta x]; congr 1 <;> exact Subsingleton.elim (α := Fin 1) _ _⟩
    rw [h2, h3, h4, h5, h6]
    unfold val
    simp only [Fin.sum_univ_two]
    pointwise [k4_pay1, k4_pay2, k4_pay3, k4_pay4, k4_pay5, k4_pay6, k4_pay7, k4_pay8, k4_pay9, k4_pay10, k4_pay11,
      k4_pay12, k4_pay13, k4_pay14]
    simp only [at5 x0, at3 x1, at2 x2, ← add_assoc]
    rfl

variable (V : (c : Dev nD) → (b : Ref sig .tc) → Buf (Elt Ideal) ((c : Thread nD τ).loc b))

/-- The result at image `n`, band `q`, row `i` of parity `a`, column `j` of parity `b`, channel `o`. -/
def at' (P : FVec Ideal S8x4x10x704x128 .f32) (W : FVec Ideal S16x128x64 .f32) (B : FVec Ideal S1x64 .f32)
    (n q i a j b o : ℕ) : EReal :=
  max (∑ th : Fin 2, ∑ tw : Fin 2, ∑ c : Fin 128,
      rd5 P n q (a + th + i) (b + tw + j) c * rd3 W (a * 8 + b * 4 + th * 2 + tw) c o + rd2 B 0 o) 0

/-- The result's array after the call, from the three arrays it reads. -/
def G (P : FVec Ideal S8x4x10x704x128 .f32) (W : FVec Ideal S16x128x64 .f32) (B : FVec Ideal S1x64 .f32) :
    FVec Ideal S8x4x8x2x702x2x64 .f32 := fun y => at' P W B (y 0) (y 1) (y 2) (y 3) (y 4) (y 5) (y 6)

/-- A block of the first operand is one band of one image. -/
theorem blk0 (c : Dev nD) (t : Fin cfg4.N) (r s k : ℕ) :
    rd5 (a := 1) (b := 1) (c := 10) (d := 704) (e := 128) (iblk4 V c 0 t) 0 0 r s k
      = rd5 (a := 8) (b := 4) (c := 10) (d := 704) (e := 128) (V c main_v191) (t.val / 4) (t.val % 4) r s k := by
  have ht : t.val < 32 := t.isLt
  unfold rd5
  by_cases h : r < 10 ∧ s < 704 ∧ k < 128
  · rw [dif_pos ⟨Nat.one_pos, Nat.one_pos, h⟩, dif_pos ⟨by omega, by omega, h⟩]
    blk_ext [iblk4, idx t]
  · rw [dif_neg fun h' => h h'.2.2, dif_neg fun h' => h h'.2.2]

/-- Where a block's element lies in the result's array. -/
theorem place (t : Fin cfg4.N) (y : S1x1x8x2x702x2x64.Idx) :
    ((((cfg4.win 3).blk t).view.emb y) 0 : ℕ) = t.val / 4 ∧ ((((cfg4.win 3).blk t).view.emb y) 1 : ℕ) = t.val % 4
    ∧ ((((cfg4.win 3).blk t).view.emb y) 2 : ℕ) = y 2 ∧ ((((cfg4.win 3).blk t).view.emb y) 3 : ℕ) = y 3
    ∧ ((((cfg4.win 3).blk t).view.emb y) 4 : ℕ) = y 4 ∧ ((((cfg4.win 3).blk t).view.emb y) 5 : ℕ) = y 5
    ∧ ((((cfg4.win 3).blk t).view.emb y) 6 : ℕ) = y 6 := by
  have hy0 : (y 0 : ℕ) = 0 := Nat.lt_one_iff.mp (y 0).isLt
  have hy1 : (y 1 : ℕ) = 0 := Nat.lt_one_iff.mp (y 1).isLt
  refine ⟨?_, ?_, ?_, ?_, ?_, ?_, ?_⟩ <;> blk_simp [idx t] <;> omega

/-- A block's element is the result's at the block's place. -/
theorem point (c : Dev nD) (t : Fin cfg4.N) (y : S1x1x8x2x702x2x64.Idx) :
    out4_3 (F := Ideal) (iblk4 V c 0 t) (iblk4 V c 1 t) (iblk4 V c 2 t) y
      = G (V c main_v191) (V c main_v240) (V c main_v241) (((cfg4.win 3).blk t).view.emb y) := by
  refine (block _ _ _ y).trans ?_
  have e1 : (iblk4 V c 1 t : S16x128x64.Idx → EReal) = V c main_v240 := by
    funext j; blk_ext [iblk4, idx t]
  have e2 : (iblk4 V c 2 t : S1x64.Idx → EReal) = V c main_v241 := by
    funext j; blk_ext [iblk4, idx t]
  obtain ⟨p0, p1, p2, p3, p4, p5, p6⟩ := place t y
  unfold G
  rw [p0, p1, p2, p3, p4, p5, p6]
  unfold val at'
  rw [e1, e2]
  simp only [blk0]

/-- The call's result. -/
theorem final (c : Dev nD) :
    (dat4 V c).arrAt 3 cfg4.N = G (V c main_v191) (V c main_v240) (V c main_v241) := by
  refine (dat4 V c).arrAt_eq_of_covers 3 _ (by decide +kernel) fun t hf y => ?_
  blk_simp
  rw [after4_3]
  exact point V c t y

end Cert.Proof.K4
-- ==== Proof.K5.lean ====
/-
  The last call: nine taps of a convolution, the channels summed last, a bias, a relu and a hyperbolic tangent.
-/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.K5

open Cert.KernelIdeal Cert.KernelIdeal.Gen
open Idealize.ShloMosaic Idealize.ShloMosaic.TcCoe Idealize.SL.Sem
open Idealize.ShloMosaic.Pipeline (Dat)

/-- The windows' block indices. -/
theorem idx : ∀ t : Fin cfg5.N, win5_0.index t = ![t.val/4, t.val%4, 0,0,0] ∧ win5_1.index t = ![0, 0]
    ∧ win5_2.index t = ![0, 0] ∧ win5_3.index t = ![t.val/4, t.val%4,0,0] :=
  (by decide +kernel : ∀ t : Fin grid5.N, _)

/-- What one block computes, at row `i` and column `j`. -/
theorem block (x0 : Vec Ideal S1x1x18x1409x64 .f32) (x1 : Vec Ideal S16x64 .f32) (x2 : Vec Ideal S1x1 .f32)
    (i : Fin 16) (j : Fin 1407) :
    out5_3 (F := Ideal) x0 x1 x2 (ix4 0 0 i j)
      = Ideal.tanh (max (∑ c : Fin 64, ∑ kh : Fin 3, ∑ kw : Fin 3,
          x0 (ix5 0 0 ⟨i + kh, by omega⟩ ⟨j + kw, by omega⟩ c)
            * x1 (ix2 ⟨(kh : ℕ) * 3 + kw, by omega⟩ c) + x2 (ix2 0 0)) 0) := by
  frame_out
  simp only [Fin.sum_univ_three]
  pointwise [k5_pay1,k5_pay2,k5_pay3,k5_pay4,k5_pay5,k5_pay6,k5_pay7]
  simp only [Nat.add_comm 1, Nat.add_comm 2, ← add_assoc]

variable (V : (c : Dev nD) → (b : Ref sig .tc) → Buf (Elt Ideal) ((c : Thread nD τ).loc b))

/-- The result at image `n`, band `q`, row `i`, column `j`. -/
def at' (P : FVec Ideal S8x4x18x1409x64 .f32) (W : FVec Ideal S16x64 .f32) (b : FVec Ideal S1x1 .f32)
    (n : Fin 8) (q : Fin 4) (i : Fin 16) (j : Fin 1407) : EReal :=
  Ideal.tanh (max (∑ c : Fin 64, ∑ kh : Fin 3, ∑ kw : Fin 3,
      P (ix5 n q ⟨i + kh, by omega⟩ ⟨j + kw, by omega⟩ c) * W (ix2 ⟨(kh : ℕ) * 3 + kw, by omega⟩ c) + b (ix2 0 0)) 0)

/-- The result's array after the call, from the three arrays it reads. -/
def G (P : FVec Ideal S8x4x18x1409x64 .f32) (W : FVec Ideal S16x64 .f32) (b : FVec Ideal S1x1 .f32) :
    FVec Ideal S8x4x16x1407 .f32 := fun y => at' P W b (y 0) (y 1) (y 2) (y 3)

/-- A block's element is the result's at the block's place. -/
theorem point (c : Dev nD) (t : Fin cfg5.N) (y : S1x1x16x1407.Idx) :
    out5_3 (F := Ideal) (iblk5 V c 0 t) (iblk5 V c 1 t) (iblk5 V c 2 t) y
      = G (V c main_v254) (V c main_v258) (V c main_v259) (((cfg5.win 3).blk t).view.emb y) := by
  obtain ⟨i, j, rfl⟩ : ∃ (i : Fin 16) (j : Fin 1407), y = ix4 0 0 i j :=
    ⟨y 2, y 3, by rw [← ix4_eta y]; congr 1 <;> exact Subsingleton.elim (α := Fin 1) _ _⟩
  refine (block _ _ _ i j).trans ?_
  unfold G at'
  blk_point [iblk5, idx t]

/-- The call's result. -/
theorem final (c : Dev nD) :
    (dat5 V c).arrAt 3 cfg5.N = G (V c main_v254) (V c main_v258) (V c main_v259) := by
  refine (dat5 V c).arrAt_eq_of_covers 3 _ (by decide +kernel) fun t hf y => ?_
  blk_simp
  rw [after5_3]
  exact point V c t y

end Cert.Proof.K5
-- ==== Proof.H3.lean ====
/-
  Before the fourth call: the quantised rows as images, padded.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H3

open Cert.KernelIdeal Cert.KernelIdeal.Gen
open Idealize.ShloMosaic Idealize.ShloMosaic.TcCoe Idealize.ShloMosaic.StableHlo Idealize.SL.Sem

variable (V : Valuation τ sig (Elt Ideal))

/-- The quantised rows as images. -/
theorem cut (n : Fin 8) (i : Fin 16) (j : Fin 351) (c : Fin 64) :
    (after hostOps3 V (Proc.devRef .tc main_v128) : (⟨4, ![8, 16, 351, 64]⟩ : Shape).Idx → EReal) (ix4 n i j c)
      = rd2 (V (Proc.devRef .tc main_v127) : (⟨2, ![44928, 64]⟩ : Shape).Idx → EReal) (n * 5616 + i * 351 + j) c := by
  unfold hostOps3
  after_reads_simp
  pointwise
  refine (at2 _ _ _).trans ?_
  congr 1

/-- The zero the padding uses. -/
theorem zero_pad : (after hostOps3 V (Proc.devRef .tc main_c_4) : S_.Idx → BitVec 32) = constantI S_ 32 0#32 := by
  unfold hostOps3
  after_reads_simp

/-- The padded planes. -/
theorem pad (hz : (V (Proc.devRef .tc main_c_4) : S_.Idx → BitVec 32) = constantI S_ 32 0#32)
    (n : Fin 8) (a : Fin 18) (b : Fin 353) (c : Fin 64) :
    (after hostOps3_1 V (Proc.devRef .tc main_v129) : (⟨4, ![8, 18, 353, 64]⟩ : Shape).Idx → EReal) (ix4 n a b c)
      = padded 16 351 (fun n c i j => rd4 (V (Proc.devRef .tc main_v128) : (⟨4, ![8, 16, 351, 64]⟩ : Shape).Idx → EReal) n i j c) n c a b := by
  unfold hostOps3_1
  after_reads_simp
  simp -implicitDefEqProofs only [TRef.toBuf, TRef.ofBuf, cast_cast, cast_eq, hz]
  pointwise
  rw [H0.sitofp_zero]
  simp only [at4 (V (Proc.devRef .tc main_v128)), dite_eq_ite]
  rfl

end Cert.Proof.H3
-- ==== Proof.H3w.lean ====
/-
  The weights and the bias of the fourth call.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H3w

open Cert.KernelIdeal Cert.KernelIdeal.Gen
open Idealize.ShloMosaic Idealize.ShloMosaic.TcCoe Idealize.ShloMosaic.StableHlo Idealize.SL.Sem

variable (V : Valuation τ sig (Elt Ideal))

/-- The sixteen matrices of weights. -/
def piece (U : Valuation τ sig (Elt Ideal)) : Fin 16 → S1x64x128.Idx → EReal :=
  ![U (Proc.devRef .tc main_v162), U (Proc.devRef .tc main_v163), U (Proc.devRef .tc main_v164),
    U (Proc.devRef .tc main_v165), U (Proc.devRef .tc main_v166), U (Proc.devRef .tc main_v167),
    U (Proc.devRef .tc main_v168), U (Proc.devRef .tc main_v169), U (Proc.devRef .tc main_v170),
    U (Proc.devRef .tc main_v171), U (Proc.devRef .tc main_v172), U (Proc.devRef .tc main_v173),
    U (Proc.devRef .tc main_v174), U (Proc.devRef .tc main_v175), U (Proc.devRef .tc main_v176),
    U (Proc.devRef .tc main_v177)]

theorem cat_eq : (after hostOps3_2 V (Proc.devRef .tc main_v178) : S16x64x128.Idx → EReal)
    = concatenate S16x64x128 0 (list16 (piece (upto hostOps3_2 V 48))) concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0 := by
  unfold hostOps3_2
  after_reads_simp
  rfl

/-- One matrix of weights. -/
theorem piece_at (k : Fin 16) (c : Fin 64) (o : Fin 128) :
    piece (upto hostOps3_2 V 48) k (ix3 0 c o) = rd4 (V (Proc.devRef .tc main_arg6) : (⟨4, ![64, 128, 4, 4]⟩ : Shape).Idx → EReal) c o (3 - 2 * (k / 2 % 2) - k / 8) (3 - 2 * (k % 2) - k / 4 % 2) := by
  unfold hostOps3_2
  fin_cases k
  all_goals dsimp only [piece]
  all_goals after_reads_simp
  all_goals pointwise
  all_goals exact at4 _ _ _ _ _

/-- The transposed convolution's weights by parity and tap. -/
theorem weights (k : Fin 16) (c : Fin 64) (o : Fin 128) :
    (after hostOps3_2 V (Proc.devRef .tc main_v178) : (⟨3, ![16, 64, 128]⟩ : Shape).Idx → EReal) (ix3 k c o)
      = rd4 (V (Proc.devRef .tc main_arg6) : (⟨4, ![64, 128, 4, 4]⟩ : Shape).Idx → EReal) c o (3 - 2 * (k / 2 % 2) - k / 8) (3 - 2 * (k % 2) - k / 4 % 2) := by
  rw [cat_eq]
  refine (stack16 (s := S1x64x128) (t := S16x64x128) 0 _ _ rfl rfl _ k rfl (ix3 0 c o) fun b hb => ?_).trans (piece_at V k c o)
  fin_cases b <;> first | rfl | exact absurd rfl hb

/-- The bias as a row. -/
theorem bias (z : Fin 1) (o : Fin 128) :
    (after hostOps3_2 V (Proc.devRef .tc main_v179) : (⟨2, ![1, 128]⟩ : Shape).Idx → EReal) (ix2 z o)
      = rd1 (V (Proc.devRef .tc main_arg7) : (⟨1, ![128]⟩ : Shape).Idx → EReal) o := by
  unfold hostOps3_2
  after_reads_simp
  pointwise
  exact at1 _ _

end Cert.Proof.H3w
-- ==== Proof.H4.lean ====
/-
  Before the fifth call: the woven planes, padded and cut into four bands.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H4

open Cert.KernelIdeal Cert.KernelIdeal.Gen
open Idealize.ShloMosaic Idealize.ShloMosaic.TcCoe Idealize.ShloMosaic.StableHlo Idealize.SL.Sem

variable (V : Valuation τ sig (Elt Ideal))

/-- The fourth call's result with its parities woven together. -/
theorem cut (n : Fin 8) (i : Fin 32) (j : Fin 702) (c : Fin 128) :
    (after hostOps4 V (Proc.devRef .tc main_v181) : (⟨4, ![8, 32, 702, 128]⟩ : Shape).Idx → EReal) (ix4 n i j c)
      = rd6 (V (Proc.devRef .tc main_v180) : (⟨6, ![8, 16, 2, 351, 2, 128]⟩ : Shape).Idx → EReal) n (i / 2) (i % 2) (j / 2) (j % 2) c := by
  unfold hostOps4
  after_reads_simp
  pointwise
  refine (at6 _ _ _ _ _ _ _).trans ?_
  congr 1

/-- The zero the padding uses. -/
theorem zero_pad : (after hostOps4 V (Proc.devRef .tc main_c_5) : S_.Idx → BitVec 32) = constantI S_ 32 0#32 := by
  unfold hostOps4
  after_reads_simp

/-- The padded planes. -/
theorem pad (hz : (V (Proc.devRef .tc main_c_5) : S_.Idx → BitVec 32) = constantI S_ 32 0#32)
    (n : Fin 8) (a : Fin 34) (b : Fin 704) (c : Fin 128) :
    (after hostOps4_1 V (Proc.devRef .tc main_v182) : (⟨4, ![8, 34, 704, 128]⟩ : Shape).Idx → EReal) (ix4 n a b c)
      = padded 32 702 (fun n c i j => rd4 (V (Proc.devRef .tc main_v181) : (⟨4, ![8, 32, 702, 128]⟩ : Shape).Idx → EReal) n i j c) n c a b := by
  unfold hostOps4_1
  after_reads_simp
  simp -implicitDefEqProofs only [TRef.toBuf, TRef.ofBuf, cast_cast, cast_eq, hz]
  pointwise
  rw [H0.sitofp_zero]
  simp only [at4 (V (Proc.devRef .tc main_v181)), dite_eq_ite]
  rfl

set_option maxHeartbeats 2000000 in
/-- The planes in four overlapping bands of 10 rows. -/
theorem bands (n : Fin 8) (q : Fin 4) (a : Fin 10) (b : Fin 704) (c : Fin 128) :
    (after hostOps4_2 V (Proc.devRef .tc main_v191) : (⟨5, ![8, 4, 10, 704, 128]⟩ : Shape).Idx → EReal) (ix5 n q a b c)
      = rd4 (V (Proc.devRef .tc main_v182) : (⟨4, ![8, 34, 704, 128]⟩ : Shape).Idx → EReal) n (8 * q + a) b c := by
  unfold hostOps4_2
  after_reads_simp
  pointwise
  fin_cases q
  all_goals simp only [Fin.zero_eta, Fin.isValue, Fin.mk_one, Fin.reduceFinMk, Fin.val_zero, Fin.val_one, Fin.val_two, Fin.coe_ofNat_eq_mod, Nat.reduceMod, Nat.reduceSub, Nat.reduceLT, ↓reduceDIte, Nat.lt_irrefl]
  all_goals after_reads_simp
  all_goals pointwise
  all_goals refine (at4 _ _ _ _ _).trans ?_
  all_goals simp only [Nat.reduceMul, Nat.mul_zero, Nat.mul_one, Nat.zero_add]
  all_goals rfl

end Cert.Proof.H4
-- ==== Proof.H4w.lean ====
/-
  The weights and the bias of the fifth call.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H4w

open Cert.KernelIdeal Cert.KernelIdeal.Gen
open Idealize.ShloMosaic Idealize.ShloMosaic.TcCoe Idealize.ShloMosaic.StableHlo Idealize.SL.Sem

variable (V : Valuation τ sig (Elt Ideal))

/-- The sixteen matrices of weights. -/
def piece (U : Valuation τ sig (Elt Ideal)) : Fin 16 → S1x128x64.Idx → EReal :=
  ![U (Proc.devRef .tc main_v224), U (Proc.devRef .tc main_v225), U (Proc.devRef .tc main_v226),
    U (Proc.devRef .tc main_v227), U (Proc.devRef .tc main_v228), U (Proc.devRef .tc main_v229),
    U (Proc.devRef .tc main_v230), U (Proc.devRef .tc main_v231), U (Proc.devRef .tc main_v232),
    U (Proc.devRef .tc main_v233), U (Proc.devRef .tc main_v234), U (Proc.devRef .tc main_v235),
    U (Proc.devRef .tc main_v236), U (Proc.devRef .tc main_v237), U (Proc.devRef .tc main_v238),
    U (Proc.devRef .tc main_v239)]

set_option maxHeartbeats 2000000 in
theorem cat_eq : (after hostOps4_2 V (Proc.devRef .tc main_v240) : S16x128x64.Idx → EReal)
    = concatenate S16x128x64 0 (list16 (piece (upto hostOps4_2 V 57))) concatenates_S1x128x64_S1x128x64_S1x128x64_S1x128x64_S1x128x64_S1x128x64_S1x128x64_S1x128x64_S1x128x64_S1x128x64_S1x128x64_S1x128x64_S1x128x64_S1x128x64_S1x128x64_S1x128x64_S16x128x64_d0 := by
  unfold hostOps4_2
  after_reads_simp
  rfl

set_option maxHeartbeats 2000000 in
/-- One matrix of weights. -/
theorem piece_at (k : Fin 16) (c : Fin 128) (o : Fin 64) :
    piece (upto hostOps4_2 V 57) k (ix3 0 c o) = rd4 (V (Proc.devRef .tc main_arg8) : (⟨4, ![128, 64, 4, 4]⟩ : Shape).Idx → EReal) c o (3 - 2 * (k / 2 % 2) - k / 8) (3 - 2 * (k % 2) - k / 4 % 2) := by
  unfold hostOps4_2
  fin_cases k
  all_goals dsimp only [piece]
  all_goals after_reads_simp
  all_goals pointwise
  all_goals exact at4 _ _ _ _ _

/-- The transposed convolution's weights by parity and tap. -/
theorem weights (k : Fin 16) (c : Fin 128) (o : Fin 64) :
    (after hostOps4_2 V (Proc.devRef .tc main_v240) : (⟨3, ![16, 128, 64]⟩ : Shape).Idx → EReal) (ix3 k c o)
      = rd4 (V (Proc.devRef .tc main_arg8) : (⟨4, ![128, 64, 4, 4]⟩ : Shape).Idx → EReal) c o (3 - 2 * (k / 2 % 2) - k / 8) (3 - 2 * (k % 2) - k / 4 % 2) := by
  rw [cat_eq]
  refine (stack16 (s := S1x128x64) (t := S16x128x64) 0 _ _ rfl rfl _ k rfl (ix3 0 c o) fun b hb => ?_).trans (piece_at V k c o)
  fin_cases b <;> first | rfl | exact absurd rfl hb

/-- The bias as a row. -/
theorem bias (z : Fin 1) (o : Fin 64) :
    (after hostOps4_2 V (Proc.devRef .tc main_v241) : (⟨2, ![1, 64]⟩ : Shape).Idx → EReal) (ix2 z o)
      = rd1 (V (Proc.devRef .tc main_arg9) : (⟨1, ![64]⟩ : Shape).Idx → EReal) o := by
  unfold hostOps4_2
  after_reads_simp
  pointwise
  exact at1 _ _

end Cert.Proof.H4w
-- ==== Proof.H5.lean ====
/-
  Before the last call: the woven planes, padded and cut into four bands.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H5

open Cert.KernelIdeal Cert.KernelIdeal.Gen
open Idealize.ShloMosaic Idealize.ShloMosaic.TcCoe Idealize.ShloMosaic.StableHlo Idealize.SL.Sem

variable (V : Valuation τ sig (Elt Ideal))

/-- The fifth call's result with its bands joined and its parities woven together. -/
theorem cut (n : Fin 8) (i : Fin 64) (j : Fin 1404) (c : Fin 64) :
    (after hostOps5 V (Proc.devRef .tc main_v243) : (⟨4, ![8, 64, 1404, 64]⟩ : Shape).Idx → EReal) (ix4 n i j c)
      = (V (Proc.devRef .tc main_v242) : (⟨7, ![8, 4, 8, 2, 702, 2, 64]⟩ : Shape).Idx → EReal)
          (ix7 n ⟨i / 16, by omega⟩ ⟨i / 2 % 8, by omega⟩ ⟨i % 2, by omega⟩ ⟨j / 2, by omega⟩ ⟨j % 2, by omega⟩ c) := by
  unfold hostOps5
  after_reads_simp
  pointwise

/-- The zero the padding uses. -/
theorem zero_pad : (after hostOps5 V (Proc.devRef .tc main_c_6) : S_.Idx → BitVec 32) = constantI S_ 32 0#32 := by
  unfold hostOps5
  after_reads_simp

/-- The padded planes. -/
theorem pad (hz : (V (Proc.devRef .tc main_c_6) : S_.Idx → BitVec 32) = constantI S_ 32 0#32)
    (n : Fin 8) (a : Fin 66) (b : Fin 1406) (c : Fin 64) :
    (after hostOps5_1 V (Proc.devRef .tc main_v244) : (⟨4, ![8, 66, 1406, 64]⟩ : Shape).Idx → EReal) (ix4 n a b c)
      = padded 64 1404 (fun n c i j => rd4 (V (Proc.devRef .tc main_v243) : (⟨4, ![8, 64, 1404, 64]⟩ : Shape).Idx → EReal) n i j c) n c a b := by
  unfold hostOps5_1
  after_reads_simp
  simp -implicitDefEqProofs only [TRef.toBuf, TRef.ofBuf, cast_cast, cast_eq, hz]
  pointwise
  rw [H0.sitofp_zero]
  simp only [at4 (V (Proc.devRef .tc main_v243)), dite_eq_ite]
  rfl

set_option maxHeartbeats 2000000 in
/-- The planes in four overlapping bands of 18 rows. -/
theorem bands (n : Fin 8) (q : Fin 4) (a : Fin 18) (b : Fin 1406) (c : Fin 64) :
    (after hostOps5_2 V (Proc.devRef .tc main_v253) : (⟨5, ![8, 4, 18, 1406, 64]⟩ : Shape).Idx → EReal) (ix5 n q a b c)
      = rd4 (V (Proc.devRef .tc main_v244) : (⟨4, ![8, 66, 1406, 64]⟩ : Shape).Idx → EReal) n (16 * q + a) b c := by
  unfold hostOps5_2
  after_reads_simp
  pointwise
  fin_cases q
  all_goals simp only [Fin.zero_eta, Fin.isValue, Fin.mk_one, Fin.reduceFinMk, Fin.val_zero, Fin.val_one, Fin.val_two, Fin.coe_ofNat_eq_mod, Nat.reduceMod, Nat.reduceSub, Nat.reduceLT, ↓reduceDIte, Nat.lt_irrefl]
  all_goals after_reads_simp
  all_goals pointwise
  all_goals refine (at4 _ _ _ _ _).trans ?_
  all_goals simp only [Nat.reduceMul, Nat.mul_zero, Nat.mul_one, Nat.zero_add]
  all_goals rfl

end Cert.Proof.H5
-- ==== Proof.H6.lean ====
/-
  The columns the last call reads, its weights, and its result as images.
-/
module

public import proofs.«01_k».proof.Proof.H0
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H6

open Cert.KernelIdeal Cert.KernelIdeal.Gen
open Idealize.ShloMosaic Idealize.ShloMosaic.TcCoe Idealize.ShloMosaic.StableHlo Idealize.SL.Sem

variable (V : Valuation τ sig (Elt Ideal))

/-- The table of columns: column `k` of the padded result reads the column the resize names, one to the right. -/
theorem table : ∀ k : Fin 1409, lit0 k = (if k.val = 0 then 0 else if k.val = 1408 then 1405#32 else BitVec.ofNat 32 ((k.val - 1) * 1404 / 1407 + 1)) := by
  decide +kernel

theorem table_eq : (after hostOps0 V (Proc.devRef .tc main_c) : S1409.Idx → BitVec 32) = fun i => lit0 (S1409.rowMajor i) := by
  unfold hostOps0
  after_reads_simp
  rfl

/-- The last weights, a row for each tap, seven rows of zeros below. -/
theorem weights (k : Fin 9) (c : Fin 64) :
    (after hostOps5_5 (after hostOps5_4 V) (Proc.devRef .tc main_v258) : (⟨2, ![16, 64]⟩ : Shape).Idx → EReal) (ix2 ⟨k, by omega⟩ c)
      = rd4 (V (Proc.devRef .tc main_arg10) : (⟨4, ![1, 64, 3, 3]⟩ : Shape).Idx → EReal) 0 c (k / 3) (k % 3) := by
  unfold hostOps5_5 hostOps5_4
  after_reads_simp
  simp -implicitDefEqProofs only [TRef.toBuf, TRef.ofBuf, cast_cast, cast_eq]
  pointwise
  exact at4 _ 0 c _ _

theorem bias (z o : Fin 1) :
    (after hostOps5_6 V (Proc.devRef .tc main_v259) : (⟨2, ![1, 1]⟩ : Shape).Idx → EReal) (ix2 z o)
      = rd1 (V (Proc.devRef .tc main_arg11) : (⟨1, ![1]⟩ : Shape).Idx → EReal) 0 := by
  unfold hostOps5_6
  after_reads_simp
  pointwise
  refine (at1 _ _).trans ?_
  congr 1
  try omega

/-- The result of the last call with its bands joined. -/
theorem out (n : Fin 8) (z : Fin 1) (i : Fin 64) (j : Fin 1407) :
    (after hostOps6 V (Proc.devRef .tc main_v261) : (⟨4, ![8, 1, 64, 1407]⟩ : Shape).Idx → EReal) (ix4 n z i j)
      = rd4 (V (Proc.devRef .tc main_v260) : (⟨4, ![8, 4, 16, 1407]⟩ : Shape).Idx → EReal) n (i / 16) (i % 16) j := by
  unfold hostOps6
  after_reads_simp
  pointwise
  refine (at4 _ _ _ _ _).trans ?_
  congr 1

end Cert.Proof.H6
-- ==== Proof.H7.lean ====
/-
  The columns the last call reads, taken by a table.
-/
module

public import proofs.«01_k».proof.Proof.H0
public import proofs.«01_k».proof.Proof.Windows
public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

set_option maxRecDepth 16384

noncomputable section

namespace Cert.Proof.H7

open Cert.KernelIdeal Cert.KernelIdeal.Gen
open Idealize.ShloMosaic Idealize.ShloMosaic.TcCoe Idealize.ShloMosaic.StableHlo Idealize.SL.Sem

variable (V : Valuation τ sig (Elt Ideal))

/-- A word below the number of columns: not negative, not past the last column. -/
theorem word : ∀ t : Fin 1406, IntOp.cmpi .slt (BitVec.ofNat 32 t) 0#32 = 0#1 ∧ IntOp.cmpi .sge (BitVec.ofNat 32 t) 0#32 = 1#1
    ∧ IntOp.cmpi .sle (BitVec.ofNat 32 t) 1405#32 = 1#1 ∧ (BitVec.ofNat 32 t).toInt.toNat = t := by
  decide +kernel

/-- The columns taken from the bands. -/
theorem take (T : ℕ → ℕ) (hT : ∀ k : Fin 1409, (V (Proc.devRef .tc main_c) : (⟨1, ![1409]⟩ : Shape).Idx → BitVec 32) (ix1 k) = BitVec.ofNat 32 (T k))
    (hT' : ∀ k : Fin 1409, T k < 1406)
    (n : Fin 8) (q : Fin 4) (a : Fin 18) (k : Fin 1409) (c : Fin 64) :
    (after hostOps5_3 V (Proc.devRef .tc main_v254) : (⟨5, ![8, 4, 18, 1409, 64]⟩ : Shape).Idx → EReal) (ix5 n q a k c)
      = rd5 (V (Proc.devRef .tc main_v253) : (⟨5, ![8, 4, 18, 1406, 64]⟩ : Shape).Idx → EReal) n q a (T k) c := by
  unfold hostOps5_3
  after_reads_simp
  simp -implicitDefEqProofs only [TRef.toBuf, TRef.ofBuf, cast_cast, cast_eq]
  pointwise
  obtain ⟨h1, h2, h3, h4⟩ := word ⟨T k, hT' k⟩
  have hs : Scalar.select (IntOp.cmpi .slt (BitVec.ofNat 32 (T k)) 0#32) (IntOp.addi (BitVec.ofNat 32 (T k)) 1406#32)
      (BitVec.ofNat 32 (T k)) = BitVec.ofNat 32 (T k) := by rw [h1]; rfl
  have hf : (Finset.fold IntOp.andi (1#1) (fun _ : Fin 1 => IntOp.andi (1#1) (1#1)) Finset.univ) = 1#1 := by decide +kernel
  simp only [hT, hs, h2, h3]
  refine (congrArg (fun b => Scalar.select b _ _) hf).trans ?_
  refine Eq.trans (b := Host.gather gather_S8x4x18x1406x64_S1409x1_S8x4x18x1409x64_0124_3_n_n_3_1_8418164 (V (Proc.devRef .tc main_v253)) _ (ix5 n q a k c)) rfl ?_
  refine (gather_one _ 3 rfl rfl rfl _ _ _ (ix5 n q a ⟨T k, hT' k⟩ c) ?_ (ix2 k 0) ?_ ?_).trans (at5 _ _ _ _ _ _)
  · intro b hb
    match b with
    | ⟨0, _⟩ => rfl
    | ⟨1, _⟩ => rfl
    | ⟨2, _⟩ => rfl
    | ⟨3, _⟩ => exact absurd rfl hb
    | ⟨4, _⟩ => rfl
  · funext b; refine Fin.ext ?_
    match b with
    | ⟨0, _⟩ => rfl
    | ⟨1, _⟩ => rfl
  · have e : broadcastInDim S1409x1 ![0] bcast_S1409_S1409x1_0
          (select
            (cmpi CmpIPredicate.slt (V (Proc.devRef .tc main_c))
              (broadcastInDim S1409 ![] bcast_S_S1409 (constantI S_ 32 0#32)))
            (addi (V (Proc.devRef .tc main_c)) (broadcastInDim S1409 ![] bcast_S_S1409 (constantI S_ 32 1406#32)))
            (V (Proc.devRef .tc main_c))) (ix2 k 0) = BitVec.ofNat 32 (T k) := by
      pointwise
      simp only [hT, hs]
    rw [e, h4]
    show min (T k) (1406 - 1) = T k
    have := hT' k
    omega

end Cert.Proof.H7
-- ==== Proof.KV2.lean ====
/-
  The kernel's decoder: what the last three calls leave, as planes of the network, and the result.
-/
module

public import proofs.«01_k».proof.Proof.KV1
public import proofs.«01_k».proof.Proof.K3
public import proofs.«01_k».proof.Proof.K4
public import proofs.«01_k».proof.Proof.K5
public import proofs.«01_k».proof.Proof.H3
public import proofs.«01_k».proof.Proof.H3w
public import proofs.«01_k».proof.Proof.H4
public import proofs.«01_k».proof.Proof.H4w
public import proofs.«01_k».proof.Proof.H5
public import proofs.«01_k».proof.Proof.H6
public import proofs.«01_k».proof.Proof.H7

@[expose] public section

set_option maxRecDepth 16384

noncomputable section

namespace Cert.Proof.KV

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (d : Dev nD)

/-- The padded codes. -/
theorem pad2 (n c a b : ℕ) (hn : n < 8) (hc : c < 64) (ha : a < 18) (hb : b < 353) :
    rd4 (V17 m ρ d main_v129 : (⟨4, ![8, 18, 353, 64]⟩ : Shape).Idx → EReal) n a b c = padded 16 351 (args m d).zq n c a b := by
  rw [rd4_of _ hn ha hb hc]
  refine (congrFun (W17_of m ρ d main_v129 (by decide)) _).trans ?_
  refine (H3.pad (W15 m ρ d) (H3.zero_pad _) ⟨n, hn⟩ ⟨a, ha⟩ ⟨b, hb⟩ ⟨c, hc⟩).trans ?_
  refine padded_congr (fun i hi j hj => ?_) a b
  refine (rd4_of _ hn hi hj hc).trans ?_
  refine (H3.cut (W14 m ρ d) ⟨n, hn⟩ ⟨i, hi⟩ ⟨j, hj⟩ ⟨c, hc⟩).trans ?_
  exact call2 m ρ d n c i j hn hc hi hj

/-- What the fourth call leaves. -/
theorem call3 (n : Fin 8) (i : Fin 16) (a : Fin 2) (j : Fin 351) (b : Fin 2) (o : Fin 128) :
    (W18 m ρ d (Proc.devRef .tc main_v180) : (⟨6, ![8, 16, 2, 351, 2, 128]⟩ : Shape).Idx → EReal) (ix6 n i a j b o)
      = (args m d).h1 n o (2 * i + a) (2 * j + b) := by
  have e : (W18 m ρ d (Proc.devRef .tc main_v180) : (⟨6, ![8, 16, 2, 351, 2, 128]⟩ : Shape).Idx → EReal) = K3.G _ _ _ :=
    (W18_arr m ρ d 3).trans (K3.final (V17 m ρ) d)
  rw [e]
  refine relu_eq ?_ ?_
  · refine Eq.trans ?_ (transposed 64 16 351 (args m d).wd1 (args m d).zq n o i j a b a.isLt b.isLt).symm
    refine Finset.sum_congr rfl fun t _ => Finset.sum_congr rfl fun u _ => Finset.sum_congr rfl fun c _ => mul_eq ?_ ?_
    · exact pad2 m ρ d n c _ _ n.isLt c.isLt (by show (a : ℕ) + t + i < 18; omega) (by show (b : ℕ) + u + j < 353; omega)
    · refine (rd3_of (V17 m ρ d main_v178 : (⟨3, ![16, 64, 128]⟩ : Shape).Idx → EReal)
        (show (a : ℕ) * 8 + b * 4 + t * 2 + u < 16 by omega) c.isLt o.isLt).trans ?_
      refine (H3w.weights (W16 m ρ d) _ c o).trans ?_
      rw [W16_args m ρ d main_arg6 (by decide)]
      show (args m d).wd1 c o (3 - 2 * ((a * 8 + b * 4 + t * 2 + u) / 2 % 2) - (a * 8 + b * 4 + t * 2 + u) / 8)
        (3 - 2 * ((a * 8 + b * 4 + t * 2 + u) % 2) - (a * 8 + b * 4 + t * 2 + u) / 4 % 2) = _
      congr 1 <;> omega
  · refine (rd2_of (V17 m ρ d main_v179 : (⟨2, ![1, 128]⟩ : Shape).Idx → EReal) Nat.one_pos o.isLt).trans ?_
    refine (H3w.bias (W16 m ρ d) 0 o).trans ?_
    rw [W16_args m ρ d main_arg7 (by decide)]
    rfl

/-- The padded planes of the first decoder layer, in bands. -/
theorem pad3 (n q c a b : ℕ) (hn : n < 8) (hq : q < 4) (hc : c < 128) (ha : a < 10) (hb : b < 704) :
    rd5 (V21 m ρ d main_v191 : (⟨5, ![8, 4, 10, 704, 128]⟩ : Shape).Idx → EReal) n q a b c
      = padded 32 702 (args m d).h1 n c (8 * q + a) b := by
  rw [rd5_of _ hn hq ha hb hc]
  refine (H4.bands (W20 m ρ d) ⟨n, hn⟩ ⟨q, hq⟩ ⟨a, ha⟩ ⟨b, hb⟩ ⟨c, hc⟩).trans ?_
  refine (rd4_of _ hn (show 8 * q + a < 34 by omega) hb hc).trans ?_
  refine (H4.pad (W19 m ρ d) (H4.zero_pad _) ⟨n, hn⟩ ⟨8 * q + a, by omega⟩ ⟨b, hb⟩ ⟨c, hc⟩).trans ?_
  refine padded_congr (fun i hi j hj => ?_) _ b
  refine (rd4_of _ hn hi hj hc).trans ?_
  refine (H4.cut (W18 m ρ d) ⟨n, hn⟩ ⟨i, hi⟩ ⟨j, hj⟩ ⟨c, hc⟩).trans ?_
  refine (rd6_of _ hn (show i / 2 < 16 by omega) (show i % 2 < 2 by omega) (show j / 2 < 351 by omega)
    (show j % 2 < 2 by omega) hc).trans ?_
  refine (call3 m ρ d _ _ _ _ _ _).trans ?_
  show (args m d).h1 n c (2 * (i / 2) + i % 2) (2 * (j / 2) + j % 2) = _
  rw [Nat.div_add_mod, Nat.div_add_mod]

/-- What the fifth call leaves. -/
theorem call4 (n : Fin 8) (q : Fin 4) (i : Fin 8) (a : Fin 2) (j : Fin 702) (b : Fin 2) (o : Fin 64) :
    (W22 m ρ d (Proc.devRef .tc main_v242) : (⟨7, ![8, 4, 8, 2, 702, 2, 64]⟩ : Shape).Idx → EReal) (ix7 n q i a j b o)
      = (args m d).h2 n o (2 * (8 * q + i) + a) (2 * j + b) := by
  have e : (W22 m ρ d (Proc.devRef .tc main_v242) : (⟨7, ![8, 4, 8, 2, 702, 2, 64]⟩ : Shape).Idx → EReal) = K4.G _ _ _ :=
    (W22_arr m ρ d 3).trans (K4.final (V21 m ρ) d)
  rw [e]
  refine relu_eq ?_ ?_
  · refine Eq.trans ?_ (transposed 128 32 702 (args m d).wd2 (args m d).h1 n o (8 * q + i) j a b a.isLt b.isLt).symm
    refine Finset.sum_congr rfl fun t _ => Finset.sum_congr rfl fun u _ => Finset.sum_congr rfl fun c _ => mul_eq ?_ ?_
    · refine (pad3 m ρ d n q c _ _ n.isLt q.isLt c.isLt (show (a : ℕ) + t + i < 10 by omega) (show (b : ℕ) + u + j < 704 by omega)).trans ?_
      congr 1
      omega
    · refine (rd3_of (V21 m ρ d main_v240 : (⟨3, ![16, 128, 64]⟩ : Shape).Idx → EReal)
        (show (a : ℕ) * 8 + b * 4 + t * 2 + u < 16 by omega) c.isLt o.isLt).trans ?_
      refine (H4w.weights (W20 m ρ d) _ c o).trans ?_
      rw [W20_args m ρ d main_arg8 (by decide)]
      show (args m d).wd2 c o (3 - 2 * ((a * 8 + b * 4 + t * 2 + u) / 2 % 2) - (a * 8 + b * 4 + t * 2 + u) / 8)
        (3 - 2 * ((a * 8 + b * 4 + t * 2 + u) % 2) - (a * 8 + b * 4 + t * 2 + u) / 4 % 2) = _
      congr 1 <;> omega
  · refine (rd2_of (V21 m ρ d main_v241 : (⟨2, ![1, 64]⟩ : Shape).Idx → EReal) Nat.one_pos o.isLt).trans ?_
    refine (H4w.bias (W20 m ρ d) 0 o).trans ?_
    rw [W20_args m ρ d main_arg9 (by decide)]
    rfl

/-- The table of columns is unchanged from the launch to the last call. -/
theorem table (k : Fin 1409) : (W25 m ρ d (Proc.devRef .tc main_c) : (⟨1, ![1409]⟩ : Shape).Idx → BitVec 32) (ix1 k)
    = BitVec.ofNat 32 (column k) := by
  have e : W25 m ρ d (Proc.devRef .tc main_c) = W1 m ρ d (Proc.devRef .tc main_c) :=
    (W25_of m ρ d main_c (by decide)).trans <| (W24_of m ρ d main_c (by decide)).trans <| (W23_of m ρ d main_c (by decide)).trans <|
    (W22_of m ρ d main_c (by decide)).trans <| (W21_of m ρ d main_c (by decide)).trans <| (W20_of m ρ d main_c (by decide)).trans <|
    (W19_of m ρ d main_c (by decide)).trans <| (W18_of m ρ d main_c (by decide)).trans <| (W17_of m ρ d main_c (by decide)).trans <|
    (W16_of m ρ d main_c (by decide)).trans <| (W15_of m ρ d main_c (by decide)).trans <| (W14_of m ρ d main_c (by decide)).trans <|
    (W13_of m ρ d main_c (by decide)).trans <| (W12_of m ρ d main_c (by decide)).trans <| (W11_of m ρ d main_c (by decide)).trans <|
    (W10_of m ρ d main_c (by decide)).trans <| (W9_of m ρ d main_c (by decide)).trans <| (W8_of m ρ d main_c (by decide)).trans <|
    (W7_of m ρ d main_c (by decide)).trans <| (W6_of m ρ d main_c (by decide)).trans <| (W5_of m ρ d main_c (by decide)).trans <|
    (W4_of m ρ d main_c (by decide)).trans <| (W3_of m ρ d main_c (by decide)).trans <| W2_of m ρ d main_c (by decide)
  refine (congrFun (e.trans (H6.table_eq (W0 m ρ d))) _).trans ?_
  have hk : S1409.rowMajor (ix1 k) = k := Fin.ext (Shape.rowMajor_val_one (d := ![1409]) (ix1 k))
  show lit0 (S1409.rowMajor (ix1 k)) = _
  rw [hk, H6.table]
  unfold column
  split
  · rfl
  split <;> rfl

/-- The stretched, padded planes of the second decoder layer, in bands. -/
theorem pad4 (n : Fin 8) (q : Fin 4) (a : Fin 18) (k : Fin 1409) (c : Fin 64) :
    (V29 m ρ d main_v254 : (⟨5, ![8, 4, 18, 1409, 64]⟩ : Shape).Idx → EReal) (ix5 n q a k c)
      = padded 64 1407 (stretched (args m d).h2) n c (16 * q + a) k := by
  refine (congrFun ((W29_of m ρ d main_v254 (by decide)).trans <| (W28_of m ρ d main_v254 (by decide)).trans <|
    W27_of m ρ d main_v254 (by decide)) _).trans ?_
  have hT : ∀ k : Fin 1409, column k < 1406 := fun k => by
    unfold column
    split
    · omega
    split <;> omega
  refine (H7.take (W25 m ρ d) column (table m ρ d) hT n q a k c).trans ?_
  refine (rd5_of _ n.isLt q.isLt a.isLt (hT k) c.isLt).trans ?_
  refine (H5.bands (W24 m ρ d) n q a ⟨_, hT k⟩ c).trans ?_
  refine (rd4_of _ n.isLt (show 16 * (q : ℕ) + a < 66 by omega) (hT k) c.isLt).trans ?_
  refine (H5.pad (W23 m ρ d) (H5.zero_pad _) n ⟨16 * q + a, by omega⟩ ⟨_, hT k⟩ c).trans ?_
  refine (padded_congr (g := (args m d).h2) (fun i hi j hj => ?_) _ _).trans (padded_stretched _ _ _ _ _ k.isLt)
  refine (rd4_of _ n.isLt hi hj c.isLt).trans ?_
  refine (H5.cut (W22 m ρ d) n ⟨i, hi⟩ ⟨j, hj⟩ c).trans ?_
  refine (call4 m ρ d _ _ _ _ _ _ _).trans ?_
  show (args m d).h2 n c (2 * (8 * (i / 16) + i / 2 % 8) + i % 2) (2 * (j / 2) + j % 2) = _
  congr 1 <;> omega

/-- What the last call leaves. -/
theorem call5 (n : Fin 8) (q : Fin 4) (i : Fin 16) (j : Fin 1407) :
    (W30 m ρ d (Proc.devRef .tc main_v260) : (⟨4, ![8, 4, 16, 1407]⟩ : Shape).Idx → EReal) (ix4 n q i j)
      = (args m d).out n 0 (16 * q + i) j := by
  have e : (W30 m ρ d (Proc.devRef .tc main_v260) : (⟨4, ![8, 4, 16, 1407]⟩ : Shape).Idx → EReal) = K5.G _ _ _ :=
    (W30_arr m ρ d 3).trans (K5.final (V29 m ρ) d)
  rw [e]
  refine congrArg Ideal.tanh (relu_eq ?_ ?_)
  · refine Finset.sum_congr rfl fun c _ => Finset.sum_congr rfl fun k _ => Finset.sum_congr rfl fun l _ =>
      (mul_eq ?_ ?_).trans (mul_comm _ _)
    · refine (pad4 m ρ d n q _ _ c).trans ?_
      show padded _ _ _ _ _ (16 * (q : ℕ) + (i + k)) (j + l) = padded _ _ _ _ _ (1 * (16 * q + i) + k) (1 * j + l)
      congr 1 <;> omega
    · refine (congrFun (W29_of m ρ d main_v258 (by decide)) _).trans ?_
      refine (H6.weights (W26 m ρ d) ⟨k * 3 + l, by omega⟩ c).trans ?_
      rw [W26_args m ρ d main_arg10 (by decide)]
      show (args m d).wo 0 c ((k * 3 + l) / 3) ((k * 3 + l) % 3) = (args m d).wo 0 c k l
      congr 1 <;> omega
  · refine (H6.bias (W28 m ρ d) 0 0).trans ?_
    rw [W28_args m ρ d main_arg11 (by decide)]
    rfl

/-- The kernel's result. -/
theorem result (n : Fin 8) (z : Fin 1) (i : Fin 64) (j : Fin 1407) :
    (W31 m ρ d (Proc.devRef .tc main_v261) : (⟨4, ![8, 1, 64, 1407]⟩ : Shape).Idx → EReal) (ix4 n z i j)
      = (args m d).out n 0 i j := by
  refine (H6.out (W30 m ρ d) n z i j).trans ?_
  refine (rd4_of _ n.isLt (show (i : ℕ) / 16 < 4 by omega) (show (i : ℕ) % 16 < 16 by omega) j.isLt).trans ?_
  refine (call5 m ρ d _ _ _ _).trans ?_
  show (args m d).out n 0 (16 * (i / 16) + i % 16) j = _
  rw [Nat.div_add_mod]

end Cert.Proof.KV

end
-- ==== Proof.lean ====
/-
  The proof of the certificate's claims: the frames from the runs, and the equation of the two results from the
  network both programs compute.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_x_finite
public import proofs.«01_k».proof.Proof.RefRun
public import proofs.«01_k».proof.Proof.RV
public import proofs.«01_k».proof.Proof.KRun
public import proofs.«01_k».proof.Proof.KV2
public import Idealize.ShloMosaic.Lib.Claim
public import Idealize.ShloMosaic.Adequacy
public import Idealize.ShloMosaic.Init

@[expose] public section

noncomputable section

namespace Cert.Proof

open Idealize.ShloMosaic Idealize.SL.Sem

/-- An extended real whose absolute value is below infinity is real. -/
theorem real_of_abs_lt (x : EReal) (h : Ideal.cmp .olt (max x (-x)) (Ideal.ofBits .f32 0x7F800000#32) = 1#1) : ∃ a : ℝ, x = a := by
  rw [Ref.inf_val] at h
  induction x using EReal.rec with
  | bot => exact absurd h (by simp [Ideal.cmp])
  | top => exact absurd h (by simp [Ideal.cmp])
  | coe r => exact ⟨r, rfl⟩

/-- The precondition: every element of the image is real. -/
theorem real_image (m : (ℓ : Loc Cert.KernelIdeal.nD Cert.KernelIdeal.τ Cert.KernelIdeal.sig) → Buf (Elt Ideal) ℓ)
    (h : Pre_KernelIdeal_x_finite (hPre_x_finite := Cert.Pre_x_finite.Gen.facts) m) (c : Dev Cert.KernelIdeal.nD)
    (x : (⟨4, ![8, 1, 64, 1407]⟩ : Shape).Idx → EReal)
    (hm : m ((c.tc : Thread Cert.KernelIdeal.nD Cert.KernelIdeal.τ).loc Cert.KernelIdeal.main_arg0) = x) (i) : ∃ a : ℝ, x i = a := by
  subst hm
  exact real_of_abs_lt _ (congrFun (h c) i)

/-- The two results are equal. -/
theorem results (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (x : (⟨4, ![8, 1, 64, 1407]⟩ : Shape).Idx → EReal)
    (hm : m' ((c.tc : Thread Cert.ReferenceIdeal.nD Cert.ReferenceIdeal.τ).loc Cert.ReferenceIdeal.main_arg0) = x)
    (hx : ∀ i, ∃ a : ℝ, x i = a)
    (ha : Ref.args m' c = KV.args m c) :
    (Ref.R8 m' c (Proc.devRef .tc Cert.ReferenceIdeal.main_v192) : (⟨4, ![8, 1, 64, 1407]⟩ : Shape).Idx → EReal)
      = Cert.KernelIdeal.Gen.W31 m g c (Proc.devRef .tc Cert.KernelIdeal.main_v261) := by
  funext y
  obtain ⟨n, z, i, j, rfl⟩ : ∃ n z i j, y = ix4 n z i j := ⟨y 0, y 1, y 2, y 3, (ix4_eta y).symm⟩
  obtain rfl : z = 0 := Subsingleton.elim _ _
  refine (Ref.result m' c x hm hx n 0 i j).trans ?_
  rw [ha]
  exact (KV.result m g c n 0 i j).symm

theorem algebraic : algebraic_KernelIdeal_ReferenceIdeal_pre_x_finite (hKernelIdeal := Cert.KernelIdeal.Gen.facts)
    (hReferenceIdeal := Cert.ReferenceIdeal.Gen.facts) (hPre_x_finite := Cert.Pre_x_finite.Gen.facts) := by
  intro m g m' g' hpre hagree
  refine ⟨fun c => Cert.KernelIdeal.Gen.W31 m g c (Proc.devRef .tc Cert.KernelIdeal.main_v261),
    Cert.KernelIdeal.Gen.run_value m g, (θ_run Cert.ReferenceIdeal.defs _ _).mono (fun r h c => ⟨(h c).1.trans ?_, (h c).2⟩)
      (Ref.run_value (F := Ideal) m' g')⟩
  obtain ⟨h0, h1, h2, h3, h4, h5, h6, h7, h8, h9, h10, h11⟩ := hagree c
  refine results m g m' c (m ((c.tc : Thread Cert.KernelIdeal.nD Cert.KernelIdeal.τ).loc Cert.KernelIdeal.main_arg0)) h0
    (real_image m hpre c _ rfl) ?_
  · unfold Ref.args KV.args
    rw [h0, h1, h2, h3, h4, h5, h6, h7, h8, h9, h10, h11]

/-- Every claim of the certificate. -/
theorem claim : Cert.Claim :=
  ⟨Cert.Kernel.Gen.facts, Cert.KernelIdeal.Gen.facts, Cert.ReferenceIdeal.Gen.facts, Cert.Pre_x_finite.Gen.facts,
    fun m ρ _ => Cert.Kernel.Gen.frame m ρ, fun m ρ _ => Cert.KernelIdeal.Gen.frame m ρ, fun m ρ _ => Cert.KernelIdeal.Gen.frame m ρ,
    Ref.frame, fun m ρ _ => Ref.frame m ρ trivial, trivial, algebraic⟩

end Cert.Proof

end
